-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S7x512x8192 : Shape := ⟨3, ![7, 512, 8192]⟩
abbrev S2x512x8192 : Shape := ⟨3, ![2, 512, 8192]⟩
abbrev S2x512x512 : Shape := ⟨3, ![2, 512, 512]⟩
abbrev S7 : Shape := ⟨1, ![7]⟩
abbrev S2 : Shape := ⟨1, ![2]⟩
abbrev S_ : Shape := ⟨0, ![]⟩
abbrev S1 : Shape := ⟨1, ![1]⟩
abbrev S1x512x8192 : Shape := ⟨3, ![1, 512, 8192]⟩
abbrev S512x8192 : Shape := ⟨2, ![512, 8192]⟩
abbrev S512x512 : Shape := ⟨2, ![512, 512]⟩
abbrev S1x512x512 : Shape := ⟨3, ![1, 512, 512]⟩

abbrev nBuf : Space → Nat
  | .hbm => 5
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S8192x512, .f32⟩
  | .hbm, ⟨2, _⟩ => ⟨S8192x512, .f32⟩
  | .hbm, ⟨3, _⟩ => ⟨S7x512x8192, .f32⟩
  | .hbm, ⟨4, _⟩ => ⟨S7x512x8192, .f32⟩
  | .local _ .vmem, ⟨0, _⟩ => ⟨S8192x512, .f32⟩
  | .local _ .vmem, ⟨1, _⟩ => ⟨S2x512x8192, .f32⟩
  | .local _ .vmem, ⟨2, _⟩ => ⟨S2x512x512, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_13 : BitVec 32 := 1#32
  let v13 : BitVec 32 := Scalar.muli v4 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_22 : BitVec 32 := 1#32
  let v22 : BitVec 32 := Scalar.muli v7 c1_i32_22
  let v23 : BitVec 32 := Scalar.addi c0_i32_23 v22
  v23.toNat
def k0_off1 (d0 : Dev nD) (c0_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v49 : BitVec 32 := Scalar.muli v2 c1024_i32
  let v50 : BitVec 32 := Scalar.addi v49 c0_i32_46
  let c0_i32_49 : BitVec 32 := 0#32
  ![v50.toNat, 0]
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_107 : BitVec 32 := 1#32
  let v103 : BitVec 32 := Scalar.muli v4 c1_i32_107
  let v104 : BitVec 32 := Scalar.addi c0_i32_108 v103
  v104.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_117 : BitVec 32 := 1#32
  let v113 : BitVec 32 := Scalar.muli v7 c1_i32_117
  let v114 : BitVec 32 := Scalar.addi c0_i32_118 v113
  v114.toNat
def k0_off2 (d0 : Dev nD) (c1_i32_124 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_123 : BitVec 32 := 8#32
  let v123 : BitVec 32 := Scalar.addi v2 c8_i32_123
  let v124 : BitVec 32 := Scalar.subi v123 c1_i32_124
  let c8_i32_125 : BitVec 32 := 8#32
  let v125 : BitVec 32 := Scalar.remsi v124 c8_i32_125
  let c1024_i32_151 : BitVec 32 := 1024#32
  let v148 : BitVec 32 := Scalar.muli v125 c1024_i32_151
  let c0_i32_152 : BitVec 32 := 0#32
  let v149 : BitVec 32 := Scalar.addi v148 c0_i32_152
  let c0_i32_155 : BitVec 32 := 0#32
  ![v149.toNat, 0]
def k0_off3 (d0 : Dev nD) (c1_i32_126 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c1_i32_126
  let c8_i32_127 : BitVec 32 := 8#32
  let v127 : BitVec 32 := Scalar.remsi v126 c8_i32_127
  let c1024_i32_186 : BitVec 32 := 1024#32
  let v180 : BitVec 32 := Scalar.muli v127 c1024_i32_186
  let c512_i32_187 : BitVec 32 := 512#32
  let v181 : BitVec 32 := Scalar.addi v180 c512_i32_187
  let c0_i32_190 : BitVec 32 := 0#32
  ![v181.toNat, 0]
def k0_dev7 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_216 : BitVec 32 := 1#32
  let v204 : BitVec 32 := Scalar.muli v4 c1_i32_216
  let v205 : BitVec 32 := Scalar.addi c0_i32_217 v204
  v205.toNat
def k0_dev8 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_226 : BitVec 32 := 1#32
  let v214 : BitVec 32 := Scalar.muli v7 c1_i32_226
  let v215 : BitVec 32 := Scalar.addi c0_i32_227 v214
  v215.toNat
def k0_dev9 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_324 : BitVec 32 := 1#32
  let v305 : BitVec 32 := Scalar.muli v4 c1_i32_324
  let v306 : BitVec 32 := Scalar.addi c0_i32_325 v305
  v306.toNat
def k0_dev10 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_334 : BitVec 32 := 1#32
  let v315 : BitVec 32 := Scalar.muli v7 c1_i32_334
  let v316 : BitVec 32 := Scalar.addi c0_i32_335 v315
  v316.toNat
def k0_dev11 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_432 : BitVec 32 := 1#32
  let v406 : BitVec 32 := Scalar.muli v4 c1_i32_432
  let v407 : BitVec 32 := Scalar.addi c0_i32_433 v406
  v407.toNat
def k0_dev12 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_442 : BitVec 32 := 1#32
  let v416 : BitVec 32 := Scalar.muli v7 c1_i32_442
  let v417 : BitVec 32 := Scalar.addi c0_i32_443 v416
  v417.toNat
def k0_dev13 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_540 : BitVec 32 := 1#32
  let v507 : BitVec 32 := Scalar.muli v4 c1_i32_540
  let v508 : BitVec 32 := Scalar.addi c0_i32_541 v507
  v508.toNat
def k0_dev14 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_550 : BitVec 32 := 1#32
  let v517 : BitVec 32 := Scalar.muli v7 c1_i32_550
  let v518 : BitVec 32 := Scalar.addi c0_i32_551 v517
  v518.toNat
def k0_dev15 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_648 : BitVec 32 := 1#32
  let v608 : BitVec 32 := Scalar.muli v4 c1_i32_648
  let v609 : BitVec 32 := Scalar.addi c0_i32_649 v608
  v609.toNat
def k0_dev16 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_658 : BitVec 32 := 1#32
  let v618 : BitVec 32 := Scalar.muli v7 c1_i32_658
  let v619 : BitVec 32 := Scalar.addi c0_i32_659 v618
  v619.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
The kernel's program in its own vocabulary: the buffers and their pieces, the DMA semaphores by side and hop, and the
body as a sequence of a few repeated steps — an entry handshake, sends, landings, output tiles, drains.

A SIDE is a `Bool`: `false` is the stream that travels to the right-hand neighbour (upper halves of the row blocks,
gathered in `main_v1_1`), `true` the one that travels to the left (lower halves, gathered in `main_v1_2`). A HOP is a
`Fin 7`: at hop `h` a device forwards what reached it at hop `h - 1` (its own half block at hop 0).
-/
module

public import proofs.«01_k».proof.Proof.Gen.KernelIdeal
public import proofs.«01_k».proof.Proof.Gen.KernelIdeal.Skeleton

@[expose] public section

noncomputable section

namespace Cert.AllGather

open Cert.KernelIdeal Cert.KernelIdeal.Gen
open Idealize.ShloMosaic Idealize.ShloMosaic.TcCoe Idealize.SL.Sem

variable {F : FTy → Type} [FloatOps F]

/-! ## Buffers and their pieces -/

abbrev xM : Memref sig .tc .hbm S1024x8192 .f32 := Memref.whole main_arg0
abbrev wM : Memref sig .tc .vmem S8192x512 .f32 := Memref.whole cc0_stg0_0
abbrev oM : Memref sig .tc .hbm S8192x512 .f32 := Memref.whole main_v1_0
abbrev stM : Memref sig .tc .vmem S2x512x8192 .f32 := Memref.whole cc0_scratch0
abbrev acM : Memref sig .tc .vmem S2x512x512 .f32 := Memref.whole cc0_scratch1

/-- The gather buffer of a side, as a reference; -/
abbrev gRef : Bool → Ref sig .tc := fun | false => main_v1_1 | true => main_v1_2
/-- and as a memref. -/
abbrev gM : Bool → Memref sig .tc .hbm S7x512x8192 .f32 := fun | false => Memref.whole main_v1_1 | true => Memref.whole main_v1_2

/-- The first row of a side's half of a block of 1024 rows. -/
abbrev top : Bool → ℕ := fun | false => 0 | true => 512
/-- A side's slot in the two-slot VMEM scratch buffers. -/
abbrev pos : Bool → ℕ := fun | false => 0 | true => 1

theorem half_inb : ∀ (s : Bool) (a : Fin 2), (![top s, 0] : Fin 2 → ℕ) a + S512x8192.size a ≤ S1024x8192.size a := by decide
theorem slot_inb : ∀ (h : Fin 7) (a : Fin 3), (![h.val, 0, 0] : Fin 3 → ℕ) a + S1x512x8192.size a ≤ S7x512x8192.size a := by decide
theorem stage_inb : ∀ (s : Bool) (a : Fin 3), (![pos s, 0, 0] : Fin 3 → ℕ) a + S1x512x8192.size a ≤ S2x512x8192.size a := by decide
theorem acc_inb : ∀ (s : Bool) (a : Fin 3), (![pos s, 0, 0] : Fin 3 → ℕ) a + S1x512x512.size a ≤ S2x512x512.size a := by decide
theorem sem7_inb : ∀ (h : Fin 7) (a : Fin 1), (![h.val] : Fin 1 → ℕ) a + S1.size a ≤ S7.size a := by decide
theorem sem2_inb : ∀ (s : Bool) (a : Fin 1), (![pos s] : Fin 1 → ℕ) a + S1.size a ≤ S2.size a := by decide

/-- A side's half of the device's own rows. -/
abbrev xHalf (s : Bool) : Memref sig .tc .hbm S512x8192 .f32 :=
  xM.slice (Rect.unit (s := S1024x8192) ![top s, 0] S512x8192.size (half_inb s)) (fun _ => rfl)
/-- Slot `h` of a side's gather buffer: where hop `h` lands. -/
abbrev slot (s : Bool) (h : Fin 7) : Memref sig .tc .hbm S512x8192 .f32 :=
  ((gM s).slice (Rect.unit (s := S7x512x8192) ![h.val, 0, 0] S1x512x8192.size (slot_inb h)) (fun _ => rfl)).squeeze S512x8192 squeezes_S1x512x8192_S512x8192

abbrev stRect (s : Bool) : Rect S2x512x8192 := Rect.unit (s := S2x512x8192) ![pos s, 0, 0] S1x512x8192.size (stage_inb s)
abbrev acRect (s : Bool) : Rect S2x512x512 := Rect.unit (s := S2x512x512) ![pos s, 0, 0] S1x512x512.size (acc_inb s)
/-- A side's slot of the staging scratch buffer; -/
abbrev stSlot (s : Bool) : Memref sig .tc .vmem S512x8192 .f32 := (stM.slice (stRect s) (fun _ => rfl)).squeeze S512x8192 squeezes_S1x512x8192_S512x8192
/-- and of the accumulator's. -/
abbrev acSlot (s : Bool) : Memref sig .tc .vmem S512x512 .f32 := (acM.slice (acRect s) (fun _ => rfl)).squeeze S512x512 squeezes_S1x512x512_S512x512

/-- A block of 512 rows of the result. -/
abbrev oBlk (off : Fin 2 → ℕ) (inb : ∀ a, off a + S512x512.size a ≤ S8192x512.size a) : Memref sig .tc .hbm S512x512 .f32 :=
  oM.slice (Rect.unit (s := S8192x512) off S512x512.size inb) (fun _ => rfl)

/-! ## Semaphores -/

abbrev barS : Sem sig := (SemArray.scalar (sig.barrier 0 rfl) : Sems sig S_).sem

/-- Element `h` of an array of seven DMA semaphores. -/
abbrev sem7 (A : DmaSems sig S7) (h : Fin 7) : DmaSem sig :=
  ((A.slice (Rect.unit (s := S7) ![h.val] S1.size (sem7_inb h))).squeeze S_ squeezes_S1_S_).sem

abbrev sendS : Bool → Fin 7 → DmaSem sig := fun | false => sem7 cc0_scratch2 | true => sem7 cc0_scratch4
abbrev recvS : Bool → Fin 7 → DmaSem sig := fun | false => sem7 cc0_scratch3 | true => sem7 cc0_scratch5
abbrev locS (s : Bool) : DmaSem sig :=
  ((cc0_scratch6.slice (Rect.unit (s := S2) ![pos s] S1.size (sem2_inb s))).squeeze S_ squeezes_S1_S_).sem

/-! ## The steps -/

/-- The product of a half block with the device's columns, as the accumulator slot takes it. -/
def prodPay (a : Vec F S1x512x8192 .f32) (b : Vec F S8192x512 .f32) : FVec F S1x512x512 .f32 :=
  shapeCast S1x512x512
    (matmul dot_S512x8192_S8192x512_S512x512_1_0_0_1_n_n none (shapeCast S512x8192 a shapeCasts_S1x512x8192_S512x8192)
      (shapeCast S8192x512 b shapeCasts_S8192x512_S8192x512) (constant S512x512 .f32 0x00000000#32))
    shapeCasts_S512x512_S1x512x512

/-- The entry handshake: one unit to each neighbour's barrier semaphore, two units awaited. -/
def handshake (d₁ d₂ : Dev nD) : Prog (TpuEff nD τ sig (Elt F) Λ₀ .tc) PUnit := do
  semSignalWord d₁ barS 1#32
  semSignalWord d₂ barS 1#32
  semWaitWord barS 2#32

/-- A slot's words lie whole in the buffer. -/
theorem slot_wordExact (s : Bool) (h : Fin 7) : (slot s h).view.WordExact := by
  cases s <;> exact (View.wordExact_bits rfl).reshape _ _
/-- So do a half block's. -/
theorem xHalf_wordExact (s : Bool) : (xHalf s).view.WordExact := View.wordExact_bits rfl

/-- Send the half block in `src` into slot `h` of device `d`'s gather buffer. -/
def sendTo (s : Bool) (h : Fin 7) (d : Dev nD) (src : Memref sig .tc .hbm S512x8192 .f32) (hw : src.view.WordExact) :
    Prog (TpuEff nD τ sig (Elt F) Λ₀ .tc) PUnit :=
  Prog.lift (.enqueueDma src (.remote (Dev.tc d) (slot s h) (.dma (sendS s h))) (.dma (recvS s h)) hw
    (slot_wordExact s h) ⟨⟨rfl, Or.inl rfl⟩, trivial⟩)

/-- Await hop `h`'s half block. -/
def landing (s : Bool) (h : Fin 7) : Prog (TpuEff nD τ sig (Elt F) Λ₀ .tc) PUnit :=
  Prog.lift (.waitDma2 (recvS s h) (slot s h) (slot s h) (slot_wordExact s h) (slot_wordExact s h))

/-- Await the completion of hop `h`'s own send; the two views only size the wait. -/
def drained (s : Bool) (h : Fin 7) (dst : Memref sig .tc .hbm S512x8192 .f32) (hw : dst.view.WordExact) :
    Prog (TpuEff nD τ sig (Elt F) Λ₀ .tc) PUnit :=
  Prog.lift (.waitDma2 (sendS s h) (slot s h) dst (slot_wordExact s h) hw)

/-- One output tile: bring the half block in `src` to VMEM, multiply it by the device's columns, and put the product at
rows `off` of the result. -/
def tile (s : Bool) (src : Memref sig .tc .hbm S512x8192 .f32) (hw : src.view.WordExact) (off : Fin 2 → ℕ)
    (inb : ∀ a, off a + S512x512.size a ≤ S8192x512.size a) : Prog (TpuEff nD τ sig (Elt F) Λ₀ .tc) PUnit := do
  Prog.lift (.enqueueDma src (.here (stSlot s)) (.dma (locS s)) hw ((View.wordExact_bits rfl).reshape _ _) ⟨Or.inl rfl, trivial⟩)
  Prog.lift (.waitDma2 (locS s) src (stSlot s) hw ((View.wordExact_bits rfl).reshape _ _))
  let a : Vec F S1x512x8192 .f32 ← Prog.lift (.load stM (stRect s).toLoadRect (View.loadsAt_vmem h_S1x512x8192))
  let b : Vec F S8192x512 .f32 ← Prog.lift (.load wM (Rect.unit (s := S8192x512) ![0, 0] S8192x512.size inb_S8192x512_S8192x512_0_0).toLoadRect (View.loadsAt_vmem h_S8192x512))
  let _z : Vec F S1x512x512 .f32 ← Prog.lift (.load acM (acRect s).toLoadRect (View.loadsAt_vmem h_S1x512x512))
  Prog.lift (.store acM (acRect s) (prodPay a b) Finset.univ (View.stores_vmem_bits_univ h_S1x512x512 rfl) (.inl rfl))
  Prog.lift (.enqueueDma (acSlot s) (.here (oBlk off inb)) (.dma (locS s)) ((View.wordExact_bits rfl).reshape _ _) (View.wordExact_bits rfl) ⟨Or.inl rfl, trivial⟩)
  Prog.lift (.waitDma2 (locS s) (acSlot s) (oBlk off inb) ((View.wordExact_bits rfl).reshape _ _) (View.wordExact_bits rfl))

/-! ## The body -/

/-- Both sides' half blocks of hop `h` have landed. -/
def land (h : Fin 7) : Prog (TpuEff nD τ sig (Elt F) Λ₀ .tc) PUnit := do
  landing false h
  landing true h

/-- Both sides forward what landed at hop `h`, each to its device. -/
def forward (h h' : Fin 7) (d d' : Dev nD) : Prog (TpuEff nD τ sig (Elt F) Λ₀ .tc) PUnit := do
  sendTo false h' d (slot false h) (slot_wordExact false h)
  sendTo true h' d' (slot true h) (slot_wordExact true h)

/-- Both sides' tiles of what landed at hop `h`. -/
def tiles (h : Fin 7) (off off' : Fin 2 → ℕ) (inb : ∀ a, off a + S512x512.size a ≤ S8192x512.size a)
    (inb' : ∀ a, off' a + S512x512.size a ≤ S8192x512.size a) : Prog (TpuEff nD τ sig (Elt F) Λ₀ .tc) PUnit := do
  tile false (slot false h) (slot_wordExact false h) off inb
  tile true (slot true h) (slot_wordExact true h) off' inb'

/-- Hop `h` with a forward: what landed goes on to the next device and is multiplied here. -/
def hop (h h' : Fin 7) (d d' : Dev nD) (off off' : Fin 2 → ℕ) (inb : ∀ a, off a + S512x512.size a ≤ S8192x512.size a)
    (inb' : ∀ a, off' a + S512x512.size a ≤ S8192x512.size a) : Prog (TpuEff nD τ sig (Elt F) Λ₀ .tc) PUnit := do
  land h
  forward h h' d d'
  tiles h off off' inb inb'

/-- The start: own half blocks sent to the neighbours, and multiplied. -/
def opening (d d' : Dev nD) (off off' : Fin 2 → ℕ) (inb : ∀ a, off a + S512x512.size a ≤ S8192x512.size a)
    (inb' : ∀ a, off' a + S512x512.size a ≤ S8192x512.size a) : Prog (TpuEff nD τ sig (Elt F) Λ₀ .tc) PUnit := do
  sendTo false 0 d (xHalf false) (xHalf_wordExact false)
  sendTo true 0 d' (xHalf true) (xHalf_wordExact true)
  tile false (xHalf false) (xHalf_wordExact false) off inb
  tile true (xHalf true) (xHalf_wordExact true) off' inb'

/-- Both sides' sends of hop `h'` have completed. -/
def drain (h h' : Fin 7) : Prog (TpuEff nD τ sig (Elt F) Λ₀ .tc) PUnit := do
  drained false h' (slot false h) (slot_wordExact false h)
  drained true h' (slot true h) (slot_wordExact true h)

/-- The whole body on device `d`. -/
def bodyOn (d : Dev nD) : Prog (TpuEff nD τ sig (Elt F) Λ₀ .tc) PUnit := do
  handshake ⟨k0_dev1 d, k0_dev1_lt d⟩ ⟨k0_dev2 d, k0_dev2_lt d⟩
  opening ⟨k0_dev3 d, k0_dev3_lt d⟩ ⟨k0_dev4 d, k0_dev4_lt d⟩ (k0_off1 d 0#32) (k0_off1 d 512#32) (k0_off1_inb d 0) (k0_off1_inb d 1)
  hop 0 1 ⟨k0_dev5 d, k0_dev5_lt d⟩ ⟨k0_dev6 d, k0_dev6_lt d⟩ (k0_off2 d 1#32) (k0_off3 d 1#32) (k0_off2_inb d 0) (k0_off3_inb d 0)
  hop 1 2 ⟨k0_dev7 d, k0_dev7_lt d⟩ ⟨k0_dev8 d, k0_dev8_lt d⟩ (k0_off2 d 2#32) (k0_off3 d 2#32) (k0_off2_inb d 1) (k0_off3_inb d 1)
  hop 2 3 ⟨k0_dev9 d, k0_dev9_lt d⟩ ⟨k0_dev10 d, k0_dev10_lt d⟩ (k0_off2 d 3#32) (k0_off3 d 3#32) (k0_off2_inb d 2) (k0_off3_inb d 2)
  hop 3 4 ⟨k0_dev11 d, k0_dev11_lt d⟩ ⟨k0_dev12 d, k0_dev12_lt d⟩ (k0_off2 d 4#32) (k0_off3 d 4#32) (k0_off2_inb d 3) (k0_off3_inb d 3)
  hop 4 5 ⟨k0_dev13 d, k0_dev13_lt d⟩ ⟨k0_dev14 d, k0_dev14_lt d⟩ (k0_off2 d 5#32) (k0_off3 d 5#32) (k0_off2_inb d 4) (k0_off3_inb d 4)
  hop 5 6 ⟨k0_dev15 d, k0_dev15_lt d⟩ ⟨k0_dev16 d, k0_dev16_lt d⟩ (k0_off2 d 6#32) (k0_off3 d 6#32) (k0_off2_inb d 5) (k0_off3_inb d 5)
  land 6
  tiles 6 (k0_off2 d 7#32) (k0_off3 d 7#32) (k0_off2_inb d 6) (k0_off3_inb d 6)
  drained false 0 (xHalf false) (xHalf_wordExact false)
  drained true 0 (xHalf true) (xHalf_wordExact true)
  drain 0 1
  drain 1 2
  drain 2 3
  drain 3 4
  drain 4 5
  drain 5 6

/-- The kernel's body is that sequence of steps. -/
theorem body_steps : (cc0_body xM (Memref.isWhole_whole _) wM (Memref.isWhole_whole _) oM (Memref.isWhole_whole _) (gM false) (Memref.isWhole_whole _)
      (gM true) (Memref.isWhole_whole _) stM (Memref.isWhole_whole _) acM (Memref.isWhole_whole _)
      cc0_scratch2 cc0_scratch3 cc0_scratch4 cc0_scratch5 cc0_scratch6 : Prog (TpuEff nD τ sig (Elt F) Λ₀ .tc) PUnit)
    = Prog.op .deviceId (fun d : Dev nD => bodyOn d) := by
  rfl

end Cert.AllGather
end
-- ==== Proof.Ring.lean ====
/-
The protocol: who the neighbours are, which semaphore cells there are, what each payment hands over, what a device owes
at each moment and in which order cells may be waited on.

Every device has 29 cells: its barrier cell (two duties of one unit, one per neighbour) and, for each side and hop, a
send cell and a receive cell (one duty, a half block's credit). Every slot of a gather buffer is written once, so each
cell runs through one round and is then closed.
-/
module

public import proofs.«01_k».proof.Proof.Steps
public import proofs.«01_k».proof.Proof.Gen.KernelIdeal.Frame
public import Idealize.ShloMosaic.Lib.Rounds
public import Idealize.ShloMosaic.Lib.Transfers
public import Idealize.ShloMosaic.Lib.Tactic

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds, the ring's, and the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Neighbours -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

/-- Where a side's stream goes from a device; -/
def dn : Bool → Dev nD → Dev nD := fun | false => nxt | true => prv
/-- and where it comes from. -/
def up : Bool → Dev nD → Dev nD := fun | false => prv | true => nxt

theorem dn_up : ∀ (s : Bool) (c : Dev nD), dn s (up s c) = c := by decide
theorem up_dn : ∀ (s : Bool) (c : Dev nD), up s (dn s c) = c := by decide

/-- A side's way around the ring, as a bijection of the devices. -/
def ringOf (s : Bool) : Dev nD ≃ Dev nD := ⟨dn s, up s, up_dn s, dn_up s⟩

/-- The device whose half block side `s` holds at device `c` after `n` hops. -/
def org (s : Bool) (n : ℕ) (c : Dev nD) : Dev nD := (up s)^[n] c

/-- One hop further, the data is one device further from home. -/
theorem org_dn (s : Bool) (n : ℕ) (c : Dev nD) : org s (n + 1) (dn s c) = org s n c := by
  unfold org; rw [Function.iterate_succ_apply, up_dn]

/-- The pairs of a side and a device whose half block device `c` has multiplied before hop `n - 1`'s landing. -/
def filled : ℕ → Dev nD → Finset (Bool × Dev nD)
  | 0, _ => ∅
  | n + 1, c => insert (true, org true n c) (insert (false, org false n c) (filled n c))

/-- After eight rounds of tiles — its own and seven hops' — a device has multiplied every half block. -/
theorem filled_all : ∀ c : Dev nD, filled 8 c = Finset.univ := by decide +kernel

/-! ## Cells -/

/-- A device's cells: the barrier's (`none`), and by (receive?, side, hop) the transfers'. -/
abbrev CK : Type := Option (Bool × Bool × Fin 7)

def csem : CK → SemLoc sig
  | none => .reg barS
  | some (false, s, h) => .dma (sendS s h)
  | some (true, s, h) => .dma (recvS s h)

theorem csem_inj : Function.Injective csem := by
  have h : ∀ a b : CK, csem a = csem b → a = b := by decide +kernel
  exact fun a b => h a b

/-- Which cell a semaphore is, if any. -/
def ckOf : SemLoc sig → Option CK := Function.partialInv csem
theorem ckOf_csem (k : CK) : ckOf (csem k) = some k := Function.partialInv_left csem_inj k

abbrev kcell (ck : Dev nD × CK) : GSem nD τ sig := ((ck.1 : Thread nD τ), csem ck.2)
abbrev barCell (c : Dev nD) : GSem nD τ sig := kcell (c, none)
abbrev sendCell (s : Bool) (h : Fin 7) (c : Dev nD) : GSem nD τ sig := kcell (c, some (false, s, h))
abbrev recvCell (s : Bool) (h : Fin 7) (c : Dev nD) : GSem nD τ sig := kcell (c, some (true, s, h))

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- A half block's credit. -/
def N : ℕ := (slot false 0).view.dmaCredit
theorem N_pos : 0 < N := View.dmaCredit_pos _ (Nat.pos_of_ne_zero fun h => by
  obtain ⟨a, ha⟩ := (Shape.numel_eq_zero_iff _).mp h
  fin_cases a <;> exact Nat.succ_ne_zero _ ha)
theorem slot_credit (s : Bool) (h : Fin 7) : (slot s h).view.dmaCredit = N := by cases s <;> rfl
theorem xHalf_credit (s : Bool) : (xHalf s).view.dmaCredit = N := rfl

/-! ## Contents and holdings -/

/-- Side `s`'s half block of device `e`'s rows, as launched. -/
def half (s : Bool) (e : Dev nD) : S512x8192.Idx → Elt F .f32 :=
  (xHalf s).view.read (Elt F) (m ((e : Thread nD τ).loc main_arg0))

/-- A share of that half of the device's argument. -/
def xPts (s : Bool) (c : Dev nD) (q : PosShare TreeShare) : sProp 𝕄 :=
  (xHalf s).view.loc (c : Thread nD τ) ↦[(xHalf s).view.set]{q} m ((c : Thread nD τ).loc main_arg0)

/-- A slot of a gather buffer, whatever it holds. -/
def slotFree (s : Bool) (h : Fin 7) (c : Dev nD) : sProp 𝕄 :=
  iprop(∃ f, (slot s h).view.loc (c : Thread nD τ) ↦[(slot s h).view.set]{fullShare} f)

/-- A slot holding what hop `h` brings to device `c`. -/
def slotHas (s : Bool) (h : Fin 7) (c : Dev nD) : sProp 𝕄 :=
  owns (c : Thread nD τ) (slot s h) fullShare (half m s (org s (h.val + 1) c))

instance xPts_storable (s : Bool) (c : Dev nD) (q) : BI.Storable (upEmb : UEmb _ 𝕄) (xPts m s c q) := by unfold xPts; infer_instance
instance slotFree_storable (s : Bool) (h) (c : Dev nD) : BI.Storable (upEmb : UEmb _ 𝕄) (slotFree (F := F) s h c) := by unfold slotFree; infer_instance
instance slotHas_storable (s : Bool) (h) (c : Dev nD) : BI.Storable (upEmb : UEmb _ 𝕄) (slotHas m s h c) := by unfold slotHas; infer_instance

/-! ## The schedule -/

/-- All seven slots of a side's gather buffer. -/
def slotsFree (s : Bool) (c : Dev nD) : sProp 𝕄 := bigSep Finset.univ fun h : Fin 7 => slotFree s h c
instance slotsFree_storable (s : Bool) (c : Dev nD) : BI.Storable (upEmb : UEmb _ 𝕄) (slotsFree (F := F) s c) := by unfold slotsFree; infer_instance

/-- What a completed send gives back: hop 0's, the half share of the argument it read. -/
def sendPay (s : Bool) (h : Fin 7) (c : Dev nD) : sProp 𝕄 := if h = 0 then xPts m s c fullShare.left else iprop(emp)
instance sendPay_storable (s : Bool) (h) (c : Dev nD) : BI.Storable (upEmb : UEmb _ 𝕄) (sendPay m s h c) := by unfold sendPay; split <;> infer_instance

/-- What a payment into a cell of device `c` hands over. Barrier duty `s` hands the slots side `s` of `c` is to write. -/
def payOf (c : Dev nD) : CK → Bool → sProp 𝕄
  | none, s => slotsFree s (dn s c)
  | some (false, s, h), _ => sendPay m s h c
  | some (true, s, h), _ => slotHas m s h c
instance payOf_storable (c : Dev nD) (k : CK) (d : Bool) : BI.Storable (upEmb : UEmb _ 𝕄) (payOf m c k d) := by
  unfold payOf; split <;> infer_instance

/-- A cell's duties: both neighbours' for the barrier, one for a transfer. -/
def dutiesOf : CK → Finset Bool
  | none => Finset.univ
  | some _ => {false}
/-- A duty's amount. -/
def amountOf' : CK → ℕ
  | none => 1
  | some _ => N

/-- The ring's schedule: one round per cell. -/
def ringRd : Rounds.Schedule (GSem nD τ sig) Bool 𝕄 where
  duties g r := if r = 0 ∧ g.1.2 = .tc then (match ckOf g.2 with | some k => dutiesOf k | none => ∅) else ∅
  unitless _ := False
  amount g _ _ := match ckOf g.2 with | some k => amountOf' k | none => 1
  payload g _ d := match ckOf g.2 with | some k => payOf m g.1.1 k d | none => iprop(emp)
  amount_pos g _ _ _ := by
    split
    · unfold amountOf'; split
      · exact Nat.one_pos
      · exact N_pos
    · exact Nat.one_pos

instance ringRd_payload_storable (g : GSem nD τ sig) (r : ℕ) (d : Bool) :
    BI.Storable (upEmb : UEmb _ 𝕄) ((ringRd (F := F) m).payload g r d) := by
  show BI.Storable upEmb (match ckOf g.2 with | some k => payOf m g.1.1 k d | none => iprop(emp))
  split <;> infer_instance

theorem duties_cell (c : Dev nD) (k : CK) : (ringRd m).duties (kcell (c, k)) 0 = dutiesOf k := by
  dsimp only [ringRd, kcell]; rw [if_pos ⟨rfl, rfl⟩, ckOf_csem]
theorem duties_later (g : GSem nD τ sig) : ∀ r, 1 ≤ r → (ringRd m).duties g r = ∅ :=
  fun r hr => by dsimp only [ringRd]; rw [if_neg fun h => by omega]
theorem amount_cell (c : Dev nD) (k : CK) (d : Bool) : (ringRd m).amount (kcell (c, k)) 0 d = amountOf' k := by
  dsimp only [ringRd, kcell]; rw [ckOf_csem]
theorem payload_cell (c : Dev nD) (k : CK) (d : Bool) : (ringRd m).payload (kcell (c, k)) 0 d = payOf m c k d := by
  dsimp only [ringRd, kcell]; rw [ckOf_csem]

theorem expect_bar (c : Dev nD) : (ringRd m).expect (barCell c) 0 = 2 := by
  unfold Schedule.expect Schedule.amountOf
  rw [duties_cell, Finset.sum_congr rfl fun d _ => amount_cell m c none d]; rfl
theorem expect_xfer (c : Dev nD) (x : Bool × Bool × Fin 7) : (ringRd m).expect (kcell (c, some x)) 0 = N := by
  unfold Schedule.expect Schedule.amountOf
  rw [duties_cell, Finset.sum_congr rfl fun d _ => amount_cell m c (some x) d]
  show ∑ _d ∈ {false}, N = N
  rw [Finset.sum_singleton]

/-- All the barrier cell's round hands over: both sides' slots to write. -/
theorem rest_bar (c : Dev nD) : bigSep ((ringRd m).duties (barCell c) 0 \ ∅) (fun d => (ringRd m).payload (barCell c) 0 d)
    = iprop(slotsFree (F := F) false (dn false c) ∗ slotsFree true (dn true c)) := by
  rw [Finset.sdiff_empty, duties_cell]
  show bigSep Finset.univ _ = _
  rw [bigSep_univ_eq_bigSepL [false, true] (by decide) (by decide), bigSepL_cons_cons, bigSepL_singleton, payload_cell, payload_cell]
  rfl
/-- All a transfer cell's round hands over. -/
theorem rest_xfer (c : Dev nD) (x : Bool × Bool × Fin 7) :
    bigSep ((ringRd m).duties (kcell (c, some x)) 0 \ ∅) (fun d => (ringRd m).payload (kcell (c, some x)) 0 d) = payOf m c (some x) false := by
  rw [Finset.sdiff_empty, duties_cell]
  show bigSep {false} _ = _
  rw [bigSep_singleton, payload_cell]

/-! ## What a device owes; the order of waits -/

/-- The two transfers of hop `j`, to the receive cells they pay. -/
def owedHop (c : Dev nD) (j : Fin 7) : CellTallies nD τ sig Unit :=
  tallyAt (recvCell true j (dn true c)) () N + tallyAt (recvCell false j (dn false c)) () N

/-- What is still owed from hop `n` on. -/
def owed (n : ℕ) (c : Dev nD) : CellTallies nD τ sig Unit := ∑ j ∈ Finset.univ.filter (fun j : Fin 7 => n ≤ j.val), owedHop c j

/-- What is owed at launch: all transfers, and a unit to each neighbour's barrier cell. -/
def O₀ (c : Dev nD) : CellTallies nD τ sig Unit :=
  (owed 0 c + tallyAt (barCell (up true c)) () 1) + tallyAt (barCell (up false c)) () 1

/-- Hop `h`'s two sends settle the last two summands in turn. -/
theorem owed_step (h : Fin 7) (c : Dev nD) :
    owed h.val c = (owed (h.val + 1) c + tallyAt (recvCell true h (dn true c)) () N) + tallyAt (recvCell false h (dn false c)) () N := by
  have e : Finset.univ.filter (fun j : Fin 7 => h.val ≤ j.val) = insert h (Finset.univ.filter fun j : Fin 7 => h.val + 1 ≤ j.val) := by
    ext j; simp only [Finset.mem_filter, Finset.mem_univ, true_and, Finset.mem_insert, Fin.ext_iff]; omega
  unfold owed
  rw [e, Finset.sum_insert (by simp), add_comm]
  unfold owedHop; rw [add_assoc]

theorem owed_done (c : Dev nD) : owed 7 c = 0 := by
  unfold owed
  rw [Finset.filter_false_of_mem fun j _ => by have := j.isLt; omega, Finset.sum_empty]

theorem tally_pos {a g : GSem nD τ sig} {n : ℕ} {u : Unit} (h : 0 < (tallyAt a () n : CellTallies nD τ sig Unit) g u) : g = a := by
  rw [tallyAt_apply] at h
  by_contra hn
  rw [if_neg fun h' => hn h'.1] at h
  exact Nat.lt_irrefl 0 h

/-- What is owed is owed to receive cells of the hops to come. -/
theorem owed_pos {n : ℕ} {c : Dev nD} {g : GSem nD τ sig} {u : Unit} (h : 0 < owed n c g u) :
    ∃ (s : Bool) (j : Fin 7), n ≤ j.val ∧ g = recvCell s j (dn s c) := by
  unfold owed at h
  rw [Finset.sum_apply, Finsupp.finset_sum_apply] at h
  obtain ⟨j, hj, hp⟩ := Finset.exists_ne_zero_of_sum_ne_zero h.ne'
  have hp' : 0 < owedHop c j g u := Nat.pos_of_ne_zero hp
  unfold owedHop at hp'
  rw [Pi.add_apply, Finsupp.add_apply] at hp'
  rcases Nat.add_pos_iff_pos_or_pos.mp hp' with h | h
  · exact ⟨true, j, (Finset.mem_filter.mp hj).2, tally_pos h⟩
  · exact ⟨false, j, (Finset.mem_filter.mp hj).2, tally_pos h⟩

def L (g : GSem nD τ sig) : Finset Unit := if g.1.2 = .tc then {()} else ∅
/-- Receive cells in the order of hops, above the barrier's; everything else lowest. -/
def lv (g : GSem nD τ sig) (_ : Unit) : ℕ := match ckOf g.2 with
  | some none => 1
  | some (some (true, _, h)) => 2 + h.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv, kcell]; rw [ckOf_csem]
theorem lv_recv (s : Bool) (h : Fin 7) (c : Dev nD) : lv (recvCell s h c) () = 2 + h.val := by dsimp only [lv, kcell]; rw [ckOf_csem]
theorem lv_send (s : Bool) (h : Fin 7) (c : Dev nD) : lv (sendCell s h c) () = 0 := by dsimp only [lv, kcell]; rw [ckOf_csem]
/-- A semaphore that is no cell is lowest. -/
theorem lv_other {sm : SemLoc sig} (h : ∀ k, csem k ≠ sm) (c : Dev nD) : lv ((c : Thread nD τ), sm) () = 0 := by
  have : ckOf sm = none := by
    cases hk : ckOf sm with
    | none => rfl
    | some k => exact absurd ((Function.partialInv_of_injective csem_inj k sm).mp hk) (h k)
  dsimp only [lv]; rw [this]

/-- A device may wait on a cell that lies below all it owes. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- Below the hops still owed: any cell of level under `2 + n`. -/
theorem mayWait_owed (c : Dev nD) (sm : SemLoc sig) (n : ℕ) (h : lv ((c : Thread nD τ), sm) () < 2 + n) :
    (levAts L lv : sProp 𝕄) ⊢ MayWait (c : Thread nD τ) sm () (owed n c) :=
  mayWait c sm _ fun g u hg => by
    obtain ⟨s, j, hj, rfl⟩ := owed_pos hg
    exact ⟨rfl, by cases u; rw [lv_recv]; omega⟩

end Cert.AllGather
end
-- ==== Proof.Moves.lean ====
/-
What each communication step does to what a device holds: the entry handshake, a send, a landing, the completion of a
send. Each is stated with a continuation, over all that a side's cells still have to do.
-/
module

public import proofs.«01_k».proof.Proof.Ring

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` and then has `Q`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- One step and then the rest. -/
theorem wp_then (c : Dev nD) (p q : Prog (TpuEff nD τ sig (Elt F) Λ₀ .tc) PUnit) (Q : PUnit → sProp 𝕄) :
    WP c p (fun _ => WP c q Q) ⊢ WP c (p >>= fun _ => q) Q := by
  unfold WP; rw [wp_bind]

/-! ## What every device knows -/

/-- Every cell's invariant and that its round has begun, and the order of waits. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)
instance records_persistent (K : Dev nD × CK → ℕ) : BI.Persistent (records m K) := by unfold records; infer_instance

def known (K : Dev nD × CK → ℕ) : sProp 𝕄 := iprop(records m K ∗ levAts L lv)
instance known_persistent (K : Dev nD × CK → ℕ) : BI.Persistent (known m K) := by unfold known; infer_instance

theorem known_inv (K : Dev nD × CK → ℕ) (ck : Dev nD × CK) : known m K ⊢ cellInv ER (ringRd m) (K ck) (kcell ck) := by
  unfold known records
  iintro ⟨⟨H, -⟩, -⟩
  iapply (show (bigSep Finset.univ fun ck : Dev nD × CK => (cellInv ER (ringRd m) (K ck) (kcell ck) : sProp 𝕄))
    ⊢ cellInv ER (ringRd m) (K ck) (kcell ck) from bigSep_elim (Finset.mem_univ ck)); iexact H
theorem known_reached (K : Dev nD × CK → ℕ) (ck : Dev nD × CK) : known m K ⊢ reached ER (kcell ck) 0 := by
  unfold known records
  iintro ⟨⟨-, H⟩, -⟩
  iapply (show (bigSep Finset.univ fun ck : Dev nD × CK => (reached ER (kcell ck) 0 : sProp 𝕄))
    ⊢ reached ER (kcell ck) 0 from bigSep_elim (Finset.mem_univ ck)); iexact H
theorem known_lev (K : Dev nD × CK → ℕ) : known m K ⊢ levAts L lv := by
  unfold known; iintro ⟨-, H⟩; iexact H

/-! ## Seven things, done in order -/

/-- Of seven things in order, the first `n` done and the others to do. -/
def upTo (todo done : Fin 7 → sProp 𝕄) (n : ℕ) : sProp 𝕄 := bigSep Finset.univ fun j : Fin 7 => if n ≤ j.val then todo j else done j

/-- The next one to do comes out, and done goes back. -/
theorem upTo_next (todo done : Fin 7 → sProp 𝕄) (h : Fin 7) :
    upTo todo done h.val ⊢ iprop(todo h ∗ (done h -∗ upTo todo done (h.val + 1))) := by
  unfold upTo
  rw [bigSep_univ_at _ h, bigSep_univ_at (fun j : Fin 7 => if h.val + 1 ≤ j.val then todo j else done j) h, if_pos le_rfl,
    if_neg (by omega), bigSep_congr (s := Finset.univ.erase h) (Ψ := fun j : Fin 7 => if h.val + 1 ≤ j.val then todo j else done j) fun j hj => ?_]
  · iintro ⟨H, Hr⟩
    isplitl [H]; · iexact H
    iintro Hd
    isplitl [Hd] <;> iassumption
  · have : j ≠ h := Finset.ne_of_mem_erase hj
    have : j.val ≠ h.val := fun e => this (Fin.ext e)
    by_cases hl : h.val ≤ j.val
    · rw [if_pos hl, if_pos (by omega)]
    · rw [if_neg hl, if_neg (by omega)]

/-- None done; -/
theorem upTo_zero (todo done : Fin 7 → sProp 𝕄) : upTo todo done 0 = bigSep Finset.univ todo :=
  bigSep_congr fun j _ => if_pos (Nat.zero_le _)
/-- all done. -/
theorem upTo_seven (todo done : Fin 7 → sProp 𝕄) : upTo todo done 7 = bigSep Finset.univ done :=
  bigSep_congr fun j _ => if_neg (by have := j.isLt; omega)

/-! ## A side's cells -/

/-- A landing still to come. -/
def landTodo (s : Bool) (c : Dev nD) (h : Fin 7) : sProp 𝕄 :=
  iprop(atPos ER (recvCell s h c) 0 ∅ 0 ∗ cred (tallyAt (recvCell s h c) () N))
/-- A send still to make: the two duties it pays, its own position, and the slot it writes. -/
def sendTodo (s : Bool) (c : Dev nD) (h : Fin 7) : sProp 𝕄 :=
  iprop(dutyTok ER (recvCell s h (dn s c)) 0 false ∗ dutyTok ER (sendCell s h c) 0 false ∗ atPos ER (sendCell s h c) 0 ∅ 0
    ∗ slotFree s h (dn s c))
/-- A send made, whose completion is still to be awaited. -/
def sendMade (s : Bool) (c : Dev nD) (h : Fin 7) : sProp 𝕄 :=
  iprop(atPos ER (sendCell s h c) 0 ∅ 0 ∗ cred (tallyAt (sendCell s h c) () N))

/-- Landings up to hop `n` awaited; -/
def lands (s : Bool) (c : Dev nD) : ℕ → sProp 𝕄 := upTo (landTodo s c) (fun h => semVal (recvCell s h c) 0)
/-- sends up to hop `n` made; -/
def sends (s : Bool) (c : Dev nD) : ℕ → sProp 𝕄 := upTo (sendTodo s c) (sendMade s c)
/-- completions up to hop `n` awaited. -/
def drains (s : Bool) (c : Dev nD) : ℕ → sProp 𝕄 := upTo (sendMade s c) (fun h => semVal (sendCell s h c) 0)

theorem sends_drains (s : Bool) (c : Dev nD) : (sends s c 7 : sProp 𝕄) = drains s c 0 := by
  unfold sends drains; rw [upTo_seven, upTo_zero]

/-- What is owed from hop `n` on. -/
def owing (c : Dev nD) (n : ℕ) : sProp 𝕄 := iprop(∃ W, owes (c : Thread nD τ) (owed n c) W)

/-! ## The steps -/

/-- Awaiting a transfer cell: its payload comes out and the cell is closed. -/
theorem wp_await (K : Dev nD × CK → ℕ) (c : Dev nD) (x : Bool × Bool × Fin 7) (sem : DmaSem sig) (hsem : csem (some x) = .dma sem)
    {sp sp' : Space} {a : Memref sig .tc sp S512x8192 .f32} {b : Memref sig .tc sp' S512x8192 .f32} {ha : a.view.WordExact} {hb : b.view.WordExact}
    (hN : b.view.dmaCredit = N) (n : ℕ) (hn : lv (kcell (c, some x)) () < 2 + n) (Q : PUnit → sProp 𝕄) :
    iprop(known m K ∗ atPos ER (kcell (c, some x)) 0 ∅ 0 ∗ cred (tallyAt (kcell (c, some x)) () N) ∗ owing c n
        ∗ ((semVal (kcell (c, some x)) 0 ∗ owing c n ∗ payOf m c (some x) false) -∗ Q ⟨⟩))
      ⊢ WP c (Prog.lift (.waitDma2 sem a b ha hb)) Q := by
  have hcell : kcell (c, some x) = ((c : Thread nD τ), SemLoc.dma sem) := by rw [← hsem]
  have hexp := expect_xfer m c x
  have hrest := rest_xfer m c x
  have hI := known_inv m K (c, some x)
  simp only [hcell] at hn hexp hrest hI ⊢
  unfold WP; simp only [Prog.lift, owing]
  iintro ⟨#HK, Hat, Hc, ⟨%W, HO⟩, Hk⟩
  ihave #HI := hI $$ HK
  iapply (Rounds.wp_wait_rest_token 𝒱₀ ER (ringRd m) (c : Thread nD τ) none (κ := K (c, some x))
      (wpE_waitDma2_eq 𝒱₀ (c : Thread nD τ) none Set.univ) (Set.mem_univ _) () (O := owed n c) (W := W) (R := 0) (m := 0) (T := ∅)
      (by rw [Nat.zero_add, hexp]; exact hN)) $$ [Hc HO Hat]
  · isplitr; · iexact HI
    isplitl [Hc]; · rw [hN]; iexact Hc
    isplitl [HO]; · iexact HO
    isplitr
    · iapply (mayWait_owed c _ n hn); iapply (known_lev m K); iexact HK
    iexact Hat
  iintro ⟨HO, Hat, -, Hpay⟩
  rw [wp_ret]
  imod (Rounds.cell_close ER (ringRd m) (Set.mem_univ (K (c, some x))) (fun h => h) (R := 0 + 1) (duties_later m _)) $$ [Hat] with Hz
  · isplitr; · iexact HI
    iexact Hat
  imodintro
  iapply Hk
  isplitl [Hz]; · iexact Hz
  isplitl [HO]
  · iexists _; iexact HO
  iapply (Entails.of_eq hrest); iexact Hpay

/-- A landing: the slot holds what the hop brings. -/
theorem wp_landing (K : Dev nD × CK → ℕ) (s : Bool) (h : Fin 7) (c : Dev nD) (Q : PUnit → sProp 𝕄) :
    iprop(known m K ∗ lands s c h.val ∗ owing c (h.val + 1) ∗ ((lands s c (h.val + 1) ∗ owing c (h.val + 1) ∗ slotHas m s h c) -∗ Q ⟨⟩))
      ⊢ WP c (landing s h) Q := by
  unfold lands
  iintro ⟨HK, HL, HO, Hk⟩
  ihave HL' := (upTo_next (landTodo s c) (fun h => (semVal (recvCell s h c) 0 : sProp 𝕄)) h) $$ HL
  icases HL' with ⟨Ht, Hback⟩
  unfold landTodo landing
  icases Ht with ⟨Hat, Hc⟩
  iapply (wp_await m K c (true, s, h) (recvS s h) rfl (slot_credit s h) (h.val + 1) (by rw [lv_recv]; omega) Q)
  isplitl [HK]; · iexact HK
  isplitl [Hat]; · iexact Hat
  isplitl [Hc]; · iexact Hc
  isplitl [HO]; · iexact HO
  iintro ⟨Hz, HO, Hp⟩
  iapply Hk
  isplitl [Hz Hback]; · iapply Hback; iexact Hz
  isplitl [HO]; · iexact HO
  iapply (Entails.of_eq (show payOf m c (some (true, s, h)) false = slotHas m s h c from rfl)); iexact Hp

/-- The completion of a send. -/
theorem wp_drained (K : Dev nD × CK → ℕ) (s : Bool) (h : Fin 7) (c : Dev nD) (dst : Memref sig .tc .hbm S512x8192 .f32) (hw : dst.view.WordExact)
    (hN : dst.view.dmaCredit = N) (Q : PUnit → sProp 𝕄) :
    iprop(known m K ∗ drains s c h.val ∗ owing c 7 ∗ ((drains s c (h.val + 1) ∗ owing c 7 ∗ sendPay m s h c) -∗ Q ⟨⟩))
      ⊢ WP c (drained s h dst hw) Q := by
  unfold drains
  iintro ⟨HK, HL, HO, Hk⟩
  ihave HL' := (upTo_next (sendMade s c) (fun h => (semVal (sendCell s h c) 0 : sProp 𝕄)) h) $$ HL
  icases HL' with ⟨Ht, Hback⟩
  unfold sendMade drained
  icases Ht with ⟨Hat, Hc⟩
  iapply (wp_await m K c (false, s, h) (sendS s h) rfl hN 7 (by rw [lv_send]; omega) Q)
  isplitl [HK]; · iexact HK
  isplitl [Hat]; · iexact Hat
  isplitl [Hc]; · iexact Hc
  isplitl [HO]; · iexact HO
  iintro ⟨Hz, HO, Hp⟩
  iapply Hk
  isplitl [Hz Hback]; · iapply Hback; iexact Hz
  isplitl [HO]; · iexact HO
  iapply (Entails.of_eq (show payOf m c (some (false, s, h)) false = sendPay m s h c from rfl)); iexact Hp

/-- A send: from a source holding what the side holds after `h` hops, into slot `h` of the next device. -/
theorem wp_sendTo (K : Dev nD × CK → ℕ) (s : Bool) (h : Fin 7) (c : Dev nD) (d : Dev nD) (hd : d = dn s c)
    (src : Memref sig .tc .hbm S512x8192 .f32) (hw : src.view.WordExact) (q : PosShare TreeShare) (fs : Buf (Elt F) (src.view.loc (c : Thread nD τ)))
    (hfs : src.view.read (Elt F) fs = half m s (org s h.val c))
    (hpay : (src.view.loc (c : Thread nD τ) ↦[src.view.set]{q} fs) ⊢ sendPay m s h c)
    (O : CellTallies nD τ sig Unit) (Q : PUnit → sProp 𝕄) :
    iprop(known m K ∗ sends s c h.val ∗ (src.view.loc (c : Thread nD τ) ↦[src.view.set]{q} fs)
        ∗ (∃ W, owes (c : Thread nD τ) (O + tallyAt (recvCell s h (dn s c)) () N) W)
        ∗ ((sends s c (h.val + 1) ∗ (∃ W, owes (c : Thread nD τ) O W)) -∗ Q ⟨⟩))
      ⊢ WP c (sendTo s h d src hw) Q := by
  subst hd
  unfold sends
  iintro ⟨#HK, HL, Hs, ⟨%W, HO⟩, Hk⟩
  ihave HL' := (upTo_next (sendTodo s c) (sendMade s c) h) $$ HL
  icases HL' with ⟨Ht, Hback⟩
  unfold sendTodo slotFree sendMade sendTo WP
  simp only [Prog.lift]
  icases Ht with ⟨Ht2, Ht1, Hat, ⟨%fd, Hd⟩⟩
  ihave #HI1 := (known_inv m K (c, some (false, s, h))) $$ HK
  ihave #HI2 := (known_inv m K (dn s c, some (true, s, h))) $$ HK
  ihave #HR1 := (known_reached m K (c, some (false, s, h))) $$ HK
  ihave #HR2 := (known_reached m K (dn s c, some (true, s, h))) $$ HK
  iapply (Rounds.wp_send_pointsTo 𝒱₀ ER (ringRd m) (c : Thread nD τ) none (c' := (dn s c : Thread nD τ)) (κ₁ := K (c, some (false, s, h))) (κ₂ := K (dn s c, some (true, s, h)))
    (sS := .dma (sendS s h)) (sem := .dma (recvS s h)) (dst := slot s h) (fd := fd) (q := q) (fs := fs)
    (r₁ := 0) (r₂ := 0) (d₁ := false) (d₂ := false)
    (by rw [show ((c : Thread nD τ), SemLoc.dma (sendS s h)) = sendCell s h c from rfl, duties_cell]; exact Finset.mem_singleton_self _)
    (by rw [show ((dn s c : Thread nD τ), SemLoc.dma (recvS s h)) = recvCell s h (dn s c) from rfl, duties_cell]; exact Finset.mem_singleton_self _)
    () () N (slot_credit s h) (amount_cell m c (some (false, s, h)) false) (amount_cell m (dn s c) (some (true, s, h)) false) O rfl (W := W)
    (by rw [show ((c : Thread nD τ), SemLoc.dma (sendS s h)) = sendCell s h c from rfl, payload_cell]; exact hpay)
    (by
      rw [show ((dn s c : Thread nD τ), SemLoc.dma (recvS s h)) = recvCell s h (dn s c) from rfl, payload_cell]
      unfold payOf slotHas owns
      iintro H
      iexists (slot s h).view.write (Elt F) fd (src.view.read (Elt F) fs) Finset.univ
      isplitr
      · ipureintro; rw [View.read_write_univ, hfs, org_dn]
      iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]
  imodintro
  iapply Hk
  isplitr [HO]
  · iapply Hback
    isplitl [Hat]; · iexact Hat
    iexact Hc
  iexists _; iexact HO

/-- The handshake: a device's own slots go to its neighbours, the neighbours' slots it will write come to it. -/
theorem wp_handshake (K : Dev nD × CK → ℕ) (c : Dev nD) (d₁ d₂ : Dev nD) (h₁ : d₁ = up false c) (h₂ : d₂ = up true c) (Q : PUnit → sProp 𝕄) :
    iprop(known m K ∗ dutyTok ER (barCell (up false c)) 0 false ∗ dutyTok ER (barCell (up true c)) 0 true
        ∗ atPos ER (barCell c) 0 ∅ 0 ∗ cred (tallyAt (barCell c) () 2) ∗ slotsFree false c ∗ slotsFree true c
        ∗ (∃ W, owes (c : Thread nD τ) (O₀ c) W)
        ∗ ((semVal (barCell c) 0 ∗ slotsFree false (dn false c) ∗ slotsFree true (dn true c) ∗ owing c 0) -∗ Q ⟨⟩))
      ⊢ WP c (handshake d₁ d₂) Q := by
  subst h₁ h₂
  unfold WP handshake O₀
  simp only [semSignalWord, semWaitWord, Prog.lift, Prog.bind_op, Prog.bind_ret]
  iintro ⟨#HK, Ht1, Ht2, Hat, Hc, Hf1, Hf2, ⟨%W, HO⟩, Hk⟩
  ihave #HI1 := (known_inv m K (up false c, none)) $$ HK
  ihave #HI2 := (known_inv m K (up true c, none)) $$ HK
  ihave #HI := (known_inv m K (c, none)) $$ HK
  ihave #HR1 := (known_reached m K (up false c, none)) $$ HK
  ihave #HR2 := (known_reached m K (up true c, none)) $$ HK
  iapply (Rounds.wp_signal 𝒱₀ ER (ringRd m) (c : Thread nD τ) none (dst := (up false c : Thread nD τ)) (sem := barS) (κ := K (up false c, none))
      (d := false) (r := 0) (by rw [show ((up false c : Thread nD τ), SemLoc.reg barS) = barCell (up false c) from rfl, duties_cell]; exact Finset.mem_univ _)
      ((amount_cell m (up false c) none false).trans (by decide)) () (owed 0 c + tallyAt (barCell (up true c)) () 1) rfl)
    $$ [HO Ht1 Hf1]
  · isplitr; · iexact HI1
    isplitl [HO]; · iexact HO
    isplitl [Ht1]; · iexact Ht1
    isplitl [Hf1]
    · rw [show ((up false c : Thread nD τ), SemLoc.reg barS) = barCell (up false c) from rfl, payload_cell]
      rw [show payOf m (up false c) none false = slotsFree false (dn false (up false c)) from rfl, dn_up]; iexact Hf1
    iexact HR1
  iintro HO
  iapply (Rounds.wp_signal 𝒱₀ ER (ringRd m) (c : Thread nD τ) none (dst := (up true c : Thread nD τ)) (sem := barS) (κ := K (up true c, none))
      (d := true) (r := 0) (by rw [show ((up true c : Thread nD τ), SemLoc.reg barS) = barCell (up true c) from rfl, duties_cell]; exact Finset.mem_univ _)
      ((amount_cell m (up true c) none true).trans (by decide)) () (owed 0 c) rfl)
    $$ [HO Ht2 Hf2]
  · isplitr; · iexact HI2
    isplitl [HO]; · iexact HO
    isplitl [Ht2]; · iexact Ht2
    isplitl [Hf2]
    · rw [show ((up true c : Thread nD τ), SemLoc.reg barS) = barCell (up true c) from rfl, payload_cell]
      rw [show payOf m (up true c) none true = slotsFree true (dn true (up true c)) from rfl, dn_up]; iexact Hf2
    iexact HR2
  iintro HO
  iapply (Rounds.wp_wait_rest_token 𝒱₀ ER (ringRd m) (c : Thread nD τ) none (κ := K (c, none))
      (wpE_semWait_eq 𝒱₀ (c : Thread nD τ) none Set.univ) (Set.mem_univ _) () (O := owed 0 c) (W := W) (R := 0) (m := 0) (T := ∅)
      (by rw [show ((c : Thread nD τ), SemLoc.reg barS) = barCell c from rfl, expect_bar]; decide)) $$ [Hc HO Hat]
  · isplitr; · iexact HI
    isplitl [Hc]; · iexact Hc
    isplitl [HO]; · iexact HO
    isplitr
    · iapply (mayWait_owed c _ 0 (by rw [show ((c : Thread nD τ), SemLoc.reg barS) = barCell c from rfl, lv_bar]; omega)); iapply (known_lev m K); iexact HK
    iexact Hat
  iintro ⟨HO, Hat, -, Hpay⟩
  ihave Hp := (Entails.of_eq (show bigSep ((ringRd m).duties ((c : Thread nD τ), SemLoc.reg barS) 0 \ ∅)
      (fun d => (ringRd m).payload ((c : Thread nD τ), SemLoc.reg barS) 0 d) = _ from rest_bar m c)) $$ Hpay
  icases Hp with ⟨Hp1, Hp2⟩
  rw [wp_ret]
  imod (Rounds.cell_close ER (ringRd m) (Set.mem_univ (K (c, none))) (fun h => h) (R := 0 + 1) (duties_later m (barCell c))) $$ [Hat] with Hz
  · isplitr; · iexact HI
    iexact Hat
  imodintro
  iapply Hk
  isplitl [Hz]; · iexact Hz
  isplitl [Hp1]; · iexact Hp1
  isplitl [Hp2]; · iexact Hp2
  unfold owing
  iexists _; iexact HO

end Cert.AllGather
end
-- ==== Proof.Tile.lean ====
/-
One output tile: what a device holds while it multiplies a half block by its columns, and what the step does to it.
The result's rows come filled half block by half block, so the holding of the result carries which are in place.
-/
module

public import proofs.«01_k».proof.Proof.Moves
public import Idealize.ShloMosaic.Lib.ReshapeSlab
public import Idealize.ShloMosaic.Lib.Pipeline.Value

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The products -/

/-- A half block times a device's columns. -/
def prod (X : S512x8192.Idx → Elt F .f32) (w : S8192x512.Idx → Elt F .f32) : S512x512.Idx → Elt F .f32 :=
  matmul dot_S512x8192_S8192x512_S512x512_1_0_0_1_n_n none (X : FVec F S512x8192 .f32)
    (shapeCast S8192x512 w shapeCasts_S8192x512_S8192x512 : FVec F S8192x512 .f32) (constant S512x512 .f32 0x00000000#32)

/-- A staging slot, read as the kernel's load reads it, is the slot's contents. -/
theorem stage_read (s : Bool) (f : S2x512x8192.Idx → Elt F .f32) :
    shapeCast S512x8192 (stM.view.readAt (Elt F) (stRect s).toLoadRect f) shapeCasts_S1x512x8192_S512x8192 = (stSlot s).view.read (Elt F) f := rfl

/-- An accumulator slot just stored holds the product. -/
theorem acc_read (s : Bool) (g : S2x512x512.Idx → Elt F .f32) (X : S512x8192.Idx → Elt F .f32) (a : Vec F S1x512x8192 .f32)
    (ha : shapeCast S512x8192 a shapeCasts_S1x512x8192_S512x8192 = X) (w : Vec F S8192x512 .f32) :
    (acSlot s).view.read (Elt F) ((acM.access (acRect s)).write (Elt F) g (prodPay a w) Finset.univ) = prod X w := by
  subst ha
  have h : (acSlot s).view.read (Elt F) ((acM.access (acRect s)).write (Elt F) g (prodPay a w) Finset.univ)
      = shapeCast S512x512 ((acM.access (acRect s)).read (Elt F) ((acM.access (acRect s)).write (Elt F) g (prodPay a w) Finset.univ))
          squeezes_S1x512x512_S512x512.numel_eq := rfl
  rw [h, View.read_write_univ]
  exact shapeCast_shapeCast _ _ _

/-! ## Where the tiles go -/

/-- The rows of the result that side `p.1`'s half block of device `p.2` makes. -/
abbrev oOff (p : Bool × Dev nD) : Fin 2 → ℕ := ![1024 * p.2.val + top p.1, 0]
theorem oOff_inb : ∀ (p : Bool × Dev nD) (a : Fin 2), oOff p a + S512x512.size a ≤ S8192x512.size a := by decide
abbrev oAt (p : Bool × Dev nD) : Memref sig .tc .hbm S512x512 .f32 := oBlk (oOff p) (oOff_inb p)

/-- The device's columns, as the pipeline brings them in. -/
def wOf (c : Dev nD) : S8192x512.Idx → Elt F .f32 := (win0_0.blk t0_0).view.read (Elt F) (m ((c : Thread nD τ).loc main_arg1))

/-- The tiles in `D` are in place. -/
def Good (c : Dev nD) (D : Finset (Bool × Dev nD)) (f : S8192x512.Idx → Elt F .f32) : Prop :=
  ∀ p ∈ D, (oAt p).view.read (Elt F) f = prod (half m p.1 p.2) (wOf m c)

/-- Different tiles have no row in common. -/
theorem oAt_apart {p p' : Bool × Dev nD} (h : p ≠ p') : Disjoint (oAt p).view.set ((oAt p').view.setOn Finset.univ) := by
  refine View.disjoint_slice_of_sep oM.view _ _ 0 rfl rfl ?_
  obtain ⟨s, e⟩ := p
  obtain ⟨s', e'⟩ := p'
  show (1024 * e.val + top s) + 512 ≤ 1024 * e'.val + top s' ∨ (1024 * e'.val + top s') + 512 ≤ 1024 * e.val + top s
  have hne : e.val ≠ e'.val ∨ s ≠ s' := by
    by_contra hc
    rw [not_or, not_not, not_not] at hc
    exact h (Prod.ext hc.2 (Fin.ext hc.1))
  cases s <;> cases s' <;> simp only [top] <;> simp at hne <;> omega

/-- Putting one more tile in place disturbs none. -/
theorem Good.step {c : Dev nD} {D : Finset (Bool × Dev nD)} {f : S8192x512.Idx → Elt F .f32} (hf : Good m c D f) (p : Bool × Dev nD)
    {v : S512x512.Idx → Elt F .f32} (hv : v = prod (half m p.1 p.2) (wOf m c)) :
    Good m c (insert p D) ((oAt p).view.write (Elt F) f v Finset.univ) := by
  intro p' hp'
  by_cases e : p' = p
  · subst e; rw [View.read_write_univ, hv]
  · have hD : p' ∈ D := (Finset.mem_insert.mp hp').resolve_left e
    rw [← hf p' hD]
    exact View.read_slice_write_slice_of_disjoint _ _ _ _ _ (oAt_apart e)

/-! ## What a tile works with -/

/-- A side's staging slot, whatever it holds; -/
def stFree (s : Bool) (c : Dev nD) : sProp 𝕄 :=
  iprop(∃ f, (stSlot s).view.loc (c : Thread nD τ) ↦[(stSlot s).view.set]{fullShare} f)
/-- its accumulator slot; -/
def acFree (s : Bool) (c : Dev nD) : sProp 𝕄 :=
  iprop(∃ f, (acSlot s).view.loc (c : Thread nD τ) ↦[(acSlot s).view.set]{fullShare} f)
/-- the device's columns; -/
def wHas (c : Dev nD) : sProp 𝕄 := iprop((c : Thread nD τ).loc cc0_stg0_0 ↦{fullShare} wOf m c)
/-- and the result with the tiles in `D` in place. -/
def oHas (D : Finset (Bool × Dev nD)) (c : Dev nD) : sProp 𝕄 :=
  iprop(∃ f, ⌜Good m c D f⌝ ∗ ((c : Thread nD τ).loc main_v1_0 ↦{fullShare} f))
/-- A side's own transfer semaphore at rest. -/
def locZ (s : Bool) (c : Dev nD) : sProp 𝕄 := semVal ((c : Thread nD τ), SemLoc.dma (locS s)) 0

/-- A side's part of it; -/
def kit (s : Bool) (c : Dev nD) : sProp 𝕄 := iprop(stFree s c ∗ acFree s c ∗ locZ s c)
/-- all of it. -/
def bench (D : Finset (Bool × Dev nD)) (c : Dev nD) : sProp 𝕄 := iprop(kit false c ∗ kit true c ∗ wHas m c ∗ oHas m D c)

/-- A side's own transfer semaphore is none of the schedule's. -/
theorem loc_other : ∀ (s : Bool) (k : CK), csem k ≠ SemLoc.dma (locS s) := by decide +kernel

theorem stage_mem (s : Bool) : stM.view.setOn (stRect s).toLoadRect.set ⊆ (stSlot s).view.set := by
  rw [View.set_reshape, View.set_slice]; exact Finset.Subset.refl _
theorem acc_mem (s : Bool) : acM.view.setOn (acRect s).toLoadRect.set ⊆ (acSlot s).view.set := by
  rw [View.set_reshape, View.set_slice]; exact Finset.Subset.refl _
theorem acc_mem' (s : Bool) : (acM.access (acRect s)).setOn Finset.univ ⊆ (acSlot s).view.set := by
  rw [View.set_reshape]; exact Finset.Subset.refl _

/-- The load of the device's columns reads all of them. -/
theorem whole_read (w : S8192x512.Idx → Elt F .f32) :
    wM.view.readAt (Elt F) (Rect.unit (s := S8192x512) ![0, 0] S8192x512.size inb_S8192x512_S8192x512_0_0).toLoadRect w = w :=
  Memref.readAt_unit_zero (Elt F) cc0_stg0_0 (by decide) _ w

/-- A tile's credit. -/
def M : ℕ := (oAt (false, 0)).view.dmaCredit
theorem M_pos : 0 < M := View.dmaCredit_pos _ (Nat.pos_of_ne_zero fun h => by
  obtain ⟨a, ha⟩ := (Shape.numel_eq_zero_iff _).mp h
  fin_cases a <;> exact Nat.succ_ne_zero _ ha)

/-- A tile: the half block in `src` is multiplied by the device's columns and the product put in its place. -/
theorem wp_tile (K : Dev nD × CK → ℕ) (c : Dev nD) (p : Bool × Dev nD) (src : Memref sig .tc .hbm S512x8192 .f32) (hw : src.view.WordExact)
    (q : PosShare TreeShare) (fs : Buf (Elt F) (src.view.loc (c : Thread nD τ))) (hfs : src.view.read (Elt F) fs = half m p.1 p.2)
    (off : Fin 2 → ℕ) (inb : ∀ a, off a + S512x512.size a ≤ S8192x512.size a) (hoff : off = oOff p)
    (D : Finset (Bool × Dev nD)) (n : ℕ) (Q : PUnit → sProp 𝕄) :
    iprop(known m K ∗ (src.view.loc (c : Thread nD τ) ↦[src.view.set]{q} fs) ∗ kit p.1 c ∗ wHas m c ∗ oHas m D c
        ∗ owing c n
        ∗ (((src.view.loc (c : Thread nD τ) ↦[src.view.set]{q} fs) ∗ kit p.1 c ∗ wHas m c ∗ oHas m (insert p D) c
            ∗ owing c n) -∗ Q ⟨⟩))
      ⊢ WP c (tile p.1 src hw off inb) Q := by
  subst hoff
  obtain ⟨s, e⟩ := p
  have hmay : (known m K : sProp 𝕄) ⊢ MayWait (c : Thread nD τ) (SemLoc.dma (locS s)) () (owed n c) :=
    (known_lev m K).trans (mayWait_owed c _ n (by rw [lv_other (loc_other s)]; omega))
  dsimp only at hfs ⊢
  unfold WP tile kit stFree acFree locZ wHas oHas owing
  simp only [Prog.lift, Prog.bind_op, Prog.bind_ret]
  iintro ⟨#HK, Hs, ⟨⟨%fst, Hst⟩, ⟨%fac, Hac⟩, Hz⟩, Hw, ⟨%fo, %hfo, Ho⟩, ⟨%W, HO⟩, Hk⟩
  -- the half block comes to the staging slot
  iapply (Transfers.wp_dmaLocal countersEmb 𝒱₀ (c : Thread nD τ) none (dst := stSlot s) (sm := .dma (locS s)) () N rfl N_pos (Finset.Subset.refl _)) $$ [Hs Hst Hz]
  · isplitl [Hs]; · iexact Hs
    isplitl [Hst]; · iexact Hst
    iexact Hz
  iintro Hfl
  iapply (Transfers.wp_waitLocalO countersEmb 𝒱₀ (c : Thread nD τ) none () (show (stSlot s).view.dmaCredit = N from rfl) (O := owed n c)) $$ [Hfl HO]
  · isplitl [Hfl]; · iexact Hfl
    isplitl [HO]; · iexact HO
    iapply hmay; iexact HK
  iintro ⟨⟨Hst, Hs⟩, Hz, HO⟩
  -- the product is made and stored
  iapply (wp_load 𝒱₀ (c : Thread nD τ) none Set.univ (m := stM) (r := (stRect s).toLoadRect) (S := (stSlot s).view.set) (stage_mem s)) $$ Hst
  iintro Hst
  iapply (wp_load 𝒱₀ (c : Thread nD τ) none Set.univ (m := wM) (Finset.subset_univ _)) $$ Hw
  iintro Hw
  iapply (wp_load 𝒱₀ (c : Thread nD τ) none Set.univ (m := acM) (r := (acRect s).toLoadRect) (S := (acSlot s).view.set) (acc_mem s)) $$ Hac
  iintro Hac
  iapply (wp_store 𝒱₀ (c : Thread nD τ) none Set.univ (m := acM) (r := acRect s) (S := (acSlot s).view.set) (acc_mem' s)) $$ Hac
  iintro Hac
  -- and goes to its rows of the result
  iapply (Transfers.wp_dmaLocal countersEmb 𝒱₀ (c : Thread nD τ) none (src := acSlot s) (dst := oAt (s, e)) (sm := .dma (locS s)) () M rfl M_pos
    (Finset.subset_univ _)) $$ [Hac Ho Hz]
  · isplitl [Hac]; · iexact Hac
    isplitl [Ho]; · iexact Ho
    iexact Hz
  iintro Hfl
  iapply (Transfers.wp_waitLocalO countersEmb 𝒱₀ (c : Thread nD τ) none () (show (oAt (s, e)).view.dmaCredit = M from rfl) (O := owed n c)) $$ [Hfl HO]
  · isplitl [Hfl]; · iexact Hfl
    isplitl [HO]; · iexact HO
    iapply hmay; iexact HK
  iintro ⟨⟨Ho, Hac⟩, Hz, HO⟩
  rw [wp_ret]
  imodintro
  iapply Hk
  isplitl [Hs]; · iexact Hs
  isplitl [Hst Hac Hz]
  · isplitl [Hst]; · iexists _; iexact Hst
    isplitl [Hac]; · iexists _; iexact Hac
    iexact Hz
  isplitl [Hw]; · iexact Hw
  isplitl [Ho]
  · iexists _
    isplitr
    swap
    · iexact Ho
    · ipureintro
      refine Good.step m hfo (s, e) ?_
      refine (acc_read s _ (half m s e) _ ?_ _).trans ?_
      · rw [stage_read, View.read_write_univ, ← hfs]
      · exact congrArg (prod (half m s e)) (whole_read (wOf m c))
  iexists _; iexact HO

end Cert.AllGather
end
-- ==== Proof.Body.lean ====
/-
The body's run on one device: from what the launch gives it to every tile in place and every semaphore at zero.
-/
module

public import proofs.«01_k».proof.Proof.Tile

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The addresses the body computes -/

theorem off1_at : ∀ (d : Dev nD), k0_off1 d 0#32 = oOff (false, org false 0 d) ∧ k0_off1 d 512#32 = oOff (true, org true 0 d) := by decide +kernel
theorem off2_at : ∀ (h : Fin 7) (d : Dev nD), k0_off2 d (BitVec.ofNat 32 (h.val + 1)) = oOff (false, org false (h.val + 1) d) := by decide +kernel
theorem off3_at : ∀ (h : Fin 7) (d : Dev nD), k0_off3 d (BitVec.ofNat 32 (h.val + 1)) = oOff (true, org true (h.val + 1) d) := by decide +kernel

/-- The devices signalled at entry are the ones upstream, -/
theorem devs_up : ∀ d : Dev nD, (⟨k0_dev1 d, k0_dev1_lt d⟩ : Dev nD) = up false d ∧ (⟨k0_dev2 d, k0_dev2_lt d⟩ : Dev nD) = up true d := by decide +kernel
/-- and the ones sent to are downstream. -/
theorem devs_dn : ∀ d : Dev nD,
    ((⟨k0_dev3 d, k0_dev3_lt d⟩ : Dev nD) = dn false d ∧ (⟨k0_dev4 d, k0_dev4_lt d⟩ : Dev nD) = dn true d) ∧ ((⟨k0_dev5 d, k0_dev5_lt d⟩ : Dev nD) = dn false d ∧ (⟨k0_dev6 d, k0_dev6_lt d⟩ : Dev nD) = dn true d)
    ∧ ((⟨k0_dev7 d, k0_dev7_lt d⟩ : Dev nD) = dn false d ∧ (⟨k0_dev8 d, k0_dev8_lt d⟩ : Dev nD) = dn true d) ∧ ((⟨k0_dev9 d, k0_dev9_lt d⟩ : Dev nD) = dn false d ∧ (⟨k0_dev10 d, k0_dev10_lt d⟩ : Dev nD) = dn true d)
    ∧ ((⟨k0_dev11 d, k0_dev11_lt d⟩ : Dev nD) = dn false d ∧ (⟨k0_dev12 d, k0_dev12_lt d⟩ : Dev nD) = dn true d) ∧ ((⟨k0_dev13 d, k0_dev13_lt d⟩ : Dev nD) = dn false d ∧ (⟨k0_dev14 d, k0_dev14_lt d⟩ : Dev nD) = dn true d)
    ∧ ((⟨k0_dev15 d, k0_dev15_lt d⟩ : Dev nD) = dn false d ∧ (⟨k0_dev16 d, k0_dev16_lt d⟩ : Dev nD) = dn true d) := by decide +kernel

/-! ## Pairs of steps, one per side -/

/-- A source held at a share, with contents. -/
abbrev srcPts (c : Dev nD) (src : Memref sig .tc .hbm S512x8192 .f32) (q : PosShare TreeShare) (fs : Buf (Elt F) (src.view.loc (c : Thread nD τ))) :
    sProp 𝕄 := src.view.loc (c : Thread nD τ) ↦[src.view.set]{q} fs

/-- Both sides' tiles. -/
theorem wp_tilePair (K : Dev nD × CK → ℕ) (c : Dev nD) (n : ℕ) (a b : Memref sig .tc .hbm S512x8192 .f32) (ha : a.view.WordExact) (hb : b.view.WordExact)
    (q : PosShare TreeShare) (fa : Buf (Elt F) (a.view.loc (c : Thread nD τ))) (fb : Buf (Elt F) (b.view.loc (c : Thread nD τ)))
    (hfa : a.view.read (Elt F) fa = half m false (org false n c)) (hfb : b.view.read (Elt F) fb = half m true (org true n c))
    (off off' : Fin 2 → ℕ) (inb : ∀ a, off a + S512x512.size a ≤ S8192x512.size a) (inb' : ∀ a, off' a + S512x512.size a ≤ S8192x512.size a)
    (hoff : off = oOff (false, org false n c)) (hoff' : off' = oOff (true, org true n c)) (k : ℕ) (Q : PUnit → sProp 𝕄) :
    iprop(known m K ∗ srcPts c a q fa ∗ srcPts c b q fb ∗ bench m (filled n c) c ∗ owing c k
        ∗ ((srcPts c a q fa ∗ srcPts c b q fb ∗ bench m (filled (n + 1) c) c ∗ owing c k) -∗ Q ⟨⟩))
      ⊢ WP c (tile false a ha off inb >>= fun _ => tile true b hb off' inb') Q := by
  unfold bench
  iintro ⟨#HK, Ha, Hb, ⟨Hf, Ht, Hw, Ho⟩, HO, Hk⟩
  iapply (wp_then c (tile false a ha off inb) (tile true b hb off' inb') Q)
  iapply (wp_tile m K c (false, org false n c) a ha q fa hfa off inb hoff (filled n c) k _)
  isplitr; · iexact HK
  isplitl [Ha]; · iexact Ha
  isplitl [Hf]; · iexact Hf
  isplitl [Hw]; · iexact Hw
  isplitl [Ho]; · iexact Ho
  isplitl [HO]; · iexact HO
  iintro ⟨Ha, Hf, Hw, Ho, HO⟩
  iapply (wp_tile m K c (true, org true n c) b hb q fb hfb off' inb' hoff' (insert (false, org false n c) (filled n c)) k Q)
  isplitr; · iexact HK
  isplitl [Hb]; · iexact Hb
  isplitl [Ht]; · iexact Ht
  isplitl [Hw]; · iexact Hw
  isplitl [Ho]; · iexact Ho
  isplitl [HO]; · iexact HO
  iintro ⟨Hb, Ht, Hw, Ho, HO⟩
  iapply Hk
  isplitl [Ha]; · iexact Ha
  isplitl [Hb]; · iexact Hb
  isplitr [HO]
  · isplitl [Hf]; · iexact Hf
    isplitl [Ht]; · iexact Ht
    isplitl [Hw]; · iexact Hw
    iexact Ho
  iexact HO

/-- Both sides' sends of hop `h`. -/
theorem wp_sendPair (K : Dev nD × CK → ℕ) (c : Dev nD) (h : Fin 7) (d d' : Dev nD) (hd : d = dn false c) (hd' : d' = dn true c)
    (a b : Memref sig .tc .hbm S512x8192 .f32) (ha : a.view.WordExact) (hb : b.view.WordExact)
    (q : PosShare TreeShare) (fa : Buf (Elt F) (a.view.loc (c : Thread nD τ))) (fb : Buf (Elt F) (b.view.loc (c : Thread nD τ)))
    (hfa : a.view.read (Elt F) fa = half m false (org false h.val c)) (hfb : b.view.read (Elt F) fb = half m true (org true h.val c))
    (hpa : (srcPts c a q fa : sProp 𝕄) ⊢ sendPay m false h c) (hpb : (srcPts c b q fb : sProp 𝕄) ⊢ sendPay m true h c) (Q : PUnit → sProp 𝕄) :
    iprop(known m K ∗ sends false c h.val ∗ sends true c h.val ∗ srcPts c a q fa ∗ srcPts c b q fb ∗ owing c h.val
        ∗ ((sends false c (h.val + 1) ∗ sends true c (h.val + 1) ∗ owing c (h.val + 1)) -∗ Q ⟨⟩))
      ⊢ WP c (sendTo false h d a ha >>= fun _ => sendTo true h d' b hb) Q := by
  unfold owing
  rw [owed_step h c]
  iintro ⟨#HK, Hf, Ht, Ha, Hb, HO, Hk⟩
  iapply (wp_then c (sendTo false h d a ha) (sendTo true h d' b hb) Q)
  iapply (wp_sendTo m K false h c d hd a ha q fa hfa hpa _ _)
  isplitr; · iexact HK
  isplitl [Hf]; · iexact Hf
  isplitl [Ha]; · iexact Ha
  isplitl [HO]; · iexact HO
  iintro ⟨Hf, HO⟩
  iapply (wp_sendTo m K true h c d' hd' b hb q fb hfb hpb _ Q)
  isplitr; · iexact HK
  isplitl [Ht]; · iexact Ht
  isplitl [Hb]; · iexact Hb
  isplitl [HO]; · iexact HO
  iintro ⟨Ht, HO⟩
  iapply Hk
  isplitl [Hf]; · iexact Hf
  isplitl [Ht]; · iexact Ht
  iexact HO

/-- Both sides' landings of hop `h`. -/
theorem wp_land (K : Dev nD × CK → ℕ) (c : Dev nD) (h : Fin 7) (Q : PUnit → sProp 𝕄) :
    iprop(known m K ∗ lands false c h.val ∗ lands true c h.val ∗ owing c (h.val + 1)
        ∗ ((lands false c (h.val + 1) ∗ lands true c (h.val + 1) ∗ owing c (h.val + 1) ∗ slotHas m false h c ∗ slotHas m true h c) -∗ Q ⟨⟩))
      ⊢ WP c (land h) Q := by
  unfold land
  iintro ⟨#HK, Hf, Ht, HO, Hk⟩
  iapply (wp_then c (landing false h) (landing true h) Q)
  iapply (wp_landing m K false h c _)
  isplitr; · iexact HK
  isplitl [Hf]; · iexact Hf
  isplitl [HO]; · iexact HO
  iintro ⟨Hf, HO, Hsf⟩
  iapply (wp_landing m K true h c Q)
  isplitr; · iexact HK
  isplitl [Ht]; · iexact Ht
  isplitl [HO]; · iexact HO
  iintro ⟨Ht, HO, Hst⟩
  iapply Hk
  isplitl [Hf]; · iexact Hf
  isplitl [Ht]; · iexact Ht
  isplitl [HO]; · iexact HO
  isplitl [Hsf]; · iexact Hsf
  iexact Hst

/-! ## A hop -/

/-- Before hop `n`'s landing: `n` landings awaited, `n + 1` sends made on each side, and the tiles of `n + 1` rounds in place. -/
def running (n : ℕ) (c : Dev nD) : sProp 𝕄 :=
  iprop(lands false c n ∗ lands true c n ∗ sends false c (n + 1) ∗ sends true c (n + 1) ∗ bench m (filled (n + 1) c) c ∗ owing c (n + 1))

/-- A hop that forwards. -/
theorem wp_hop (K : Dev nD × CK → ℕ) (c : Dev nD) (h h' : Fin 7) (hh : h'.val = h.val + 1) (d d' : Dev nD) (hd : d = dn false c) (hd' : d' = dn true c)
    (off off' : Fin 2 → ℕ) (inb : ∀ a, off a + S512x512.size a ≤ S8192x512.size a) (inb' : ∀ a, off' a + S512x512.size a ≤ S8192x512.size a)
    (hoff : off = oOff (false, org false (h.val + 1) c)) (hoff' : off' = oOff (true, org true (h.val + 1) c)) (Q : PUnit → sProp 𝕄) :
    iprop(known m K ∗ running m h.val c ∗ (running m h'.val c -∗ Q ⟨⟩)) ⊢ WP c (hop h h' d d' off off' inb inb') Q := by
  unfold running hop
  rw [hh]
  have hpay (s : Bool) (g) : (srcPts c (slot s h) fullShare.left g : sProp 𝕄) ⊢ sendPay m s h' c := by
    unfold sendPay
    rw [if_neg fun e => by rw [e] at hh; exact absurd hh (Nat.succ_ne_zero _).symm]
    iintro -; iempintro
  iintro ⟨#HK, ⟨Hlf, Hlt, Hsf, Hst, Hbe, HO⟩, Hk⟩
  iapply (wp_then c (land h) (forward h h' d d' >>= fun _ => tiles h off off' inb inb') Q)
  iapply (wp_land m K c h _)
  isplitr; · iexact HK
  isplitl [Hlf]; · iexact Hlf
  isplitl [Hlt]; · iexact Hlt
  isplitl [HO]; · iexact HO
  unfold slotHas owns
  iintro ⟨Hlf, Hlt, HO, ⟨%ga, %hga, Ha⟩, ⟨%gb, %hgb, Hb⟩⟩
  icases (pointsTo_share (PosShare.mem_left_op_right fullShare)).1 $$ Ha with ⟨Ha, Ha'⟩
  icases (pointsTo_share (PosShare.mem_left_op_right fullShare)).1 $$ Hb with ⟨Hb, Hb'⟩
  iapply (wp_then c (forward h h' d d') (tiles h off off' inb inb') Q)
  unfold forward
  rw [← hh] at hga hgb ⊢
  iapply (wp_sendPair m K c h' d d' hd hd' (slot false h) (slot true h) _ _ fullShare.left ga gb hga hgb (hpay false ga) (hpay true gb) _)
  isplitr; · iexact HK
  isplitl [Hsf]; · iexact Hsf
  isplitl [Hst]; · iexact Hst
  isplitl [Ha]; · iexact Ha
  isplitl [Hb]; · iexact Hb
  isplitl [HO]; · iexact HO
  iintro ⟨Hsf, Hst, HO⟩
  unfold tiles
  iapply (wp_tilePair m K c h'.val (slot false h) (slot true h) _ _ fullShare.right ga gb hga hgb off off' inb inb' (by rw [hoff, hh]) (by rw [hoff', hh]) _ Q)
  isplitr; · iexact HK
  isplitl [Ha']; · iexact Ha'
  isplitl [Hb']; · iexact Hb'
  isplitl [Hbe]; · iexact Hbe
  isplitl [HO]; · iexact HO
  iintro ⟨-, -, Hbe, HO⟩
  iapply Hk
  isplitl [Hlf]; · iexact Hlf
  isplitl [Hlt]; · iexact Hlt
  isplitl [Hsf]; · iexact Hsf
  isplitl [Hst]; · iexact Hst
  isplitl [Hbe]; · iexact Hbe
  iexact HO

/-- The last hop's landing and tiles: nothing is forwarded. -/
theorem wp_last (K : Dev nD × CK → ℕ) (c : Dev nD) (off off' : Fin 2 → ℕ) (inb : ∀ a, off a + S512x512.size a ≤ S8192x512.size a)
    (inb' : ∀ a, off' a + S512x512.size a ≤ S8192x512.size a) (hoff : off = oOff (false, org false 7 c)) (hoff' : off' = oOff (true, org true 7 c))
    (Q : PUnit → sProp 𝕄) :
    iprop(known m K ∗ running m 6 c
        ∗ ((lands false c 7 ∗ lands true c 7 ∗ sends false c 7 ∗ sends true c 7 ∗ bench m (filled 8 c) c ∗ owing c 7) -∗ Q ⟨⟩))
      ⊢ WP c (land 6 >>= fun _ => tiles 6 off off' inb inb') Q := by
  unfold running
  iintro ⟨#HK, ⟨Hlf, Hlt, Hsf, Hst, Hbe, HO⟩, Hk⟩
  iapply (wp_then c (land 6) (tiles 6 off off' inb inb') Q)
  iapply (wp_land m K c 6 _)
  isplitr; · iexact HK
  isplitl [Hlf]; · iexact Hlf
  isplitl [Hlt]; · iexact Hlt
  isplitl [HO]; · iexact HO
  unfold slotHas owns
  iintro ⟨Hlf, Hlt, HO, ⟨%ga, %hga, Ha⟩, ⟨%gb, %hgb, Hb⟩⟩
  unfold tiles
  iapply (wp_tilePair m K c 7 (slot false 6) (slot true 6) _ _ fullShare ga gb hga hgb off off' inb inb' hoff hoff' _ Q)
  isplitr; · iexact HK
  isplitl [Ha]; · iexact Ha
  isplitl [Hb]; · iexact Hb
  isplitl [Hbe]; · iexact Hbe
  isplitl [HO]; · iexact HO
  iintro ⟨-, -, Hbe, HO⟩
  iapply Hk
  isplitl [Hlf]; · iexact Hlf
  isplitl [Hlt]; · iexact Hlt
  isplitl [Hsf]; · iexact Hsf
  isplitl [Hst]; · iexact Hst
  isplitl [Hbe]; · iexact Hbe
  iexact HO

/-! ## The start -/

/-- The start: the device's own half blocks are sent and multiplied; the sends keep one share of the argument each. -/
theorem wp_opening (K : Dev nD × CK → ℕ) (c : Dev nD) (d d' : Dev nD) (hd : d = dn false c) (hd' : d' = dn true c)
    (off off' : Fin 2 → ℕ) (inb : ∀ a, off a + S512x512.size a ≤ S8192x512.size a) (inb' : ∀ a, off' a + S512x512.size a ≤ S8192x512.size a)
    (hoff : off = oOff (false, org false 0 c)) (hoff' : off' = oOff (true, org true 0 c)) (Q : PUnit → sProp 𝕄) :
    iprop(known m K ∗ sends false c 0 ∗ sends true c 0 ∗ xPts m false c fullShare ∗ xPts m true c fullShare ∗ bench m (filled 0 c) c ∗ owing c 0
        ∗ ((sends false c 1 ∗ sends true c 1 ∗ xPts m false c fullShare.right ∗ xPts m true c fullShare.right ∗ bench m (filled 1 c) c ∗ owing c 1) -∗ Q ⟨⟩))
      ⊢ WP c (opening d d' off off' inb inb') Q := by
  have hpay (s : Bool) : (srcPts c (xHalf s) fullShare.left (m ((c : Thread nD τ).loc main_arg0)) : sProp 𝕄) ⊢ sendPay m s 0 c := by
    unfold sendPay; rw [if_pos rfl]; exact Entails.rfl
  unfold xPts
  iintro ⟨#HK, Hsf, Hst, Hx, Hy, Hbe, HO, Hk⟩
  icases (pointsTo_share (PosShare.mem_left_op_right fullShare)).1 $$ Hx with ⟨Hx, Hx'⟩
  icases (pointsTo_share (PosShare.mem_left_op_right fullShare)).1 $$ Hy with ⟨Hy, Hy'⟩
  iapply (show WP c ((sendTo false 0 d (xHalf false) (xHalf_wordExact false) >>= fun _ => sendTo true 0 d' (xHalf true) (xHalf_wordExact true)) >>= fun _ =>
      (tile false (xHalf false) (xHalf_wordExact false) off inb >>= fun _ => tile true (xHalf true) (xHalf_wordExact true) off' inb')) Q
    ⊢ WP c (opening d d' off off' inb inb') Q from Entails.rfl)
  iapply (wp_then c (sendTo false 0 d (xHalf false) (xHalf_wordExact false) >>= fun _ => sendTo true 0 d' (xHalf true) (xHalf_wordExact true)) _ Q)
  iapply (wp_sendPair m K c 0 d d' hd hd' (xHalf false) (xHalf true) _ _ fullShare.left _ _ rfl rfl (hpay false) (hpay true) _)
  isplitr; · iexact HK
  isplitl [Hsf]; · iexact Hsf
  isplitl [Hst]; · iexact Hst
  isplitl [Hx]; · iexact Hx
  isplitl [Hy]; · iexact Hy
  isplitl [HO]; · iexact HO
  iintro ⟨Hsf, Hst, HO⟩
  iapply (wp_tilePair m K c 0 (xHalf false) (xHalf true) _ _ fullShare.right _ _ rfl rfl off off' inb inb' hoff hoff' _ Q)
  isplitr; · iexact HK
  isplitl [Hx']; · iexact Hx'
  isplitl [Hy']; · iexact Hy'
  isplitl [Hbe]; · iexact Hbe
  isplitl [HO]; · iexact HO
  iintro ⟨Hx, Hy, Hbe, HO⟩
  iapply Hk
  isplitl [Hsf]; · iexact Hsf
  isplitl [Hst]; · iexact Hst
  isplitl [Hx]; · iexact Hx
  isplitl [Hy]; · iexact Hy
  isplitl [Hbe]; · iexact Hbe
  iexact HO

/-! ## The end -/

/-- Both sides' completions of hop `h`. -/
theorem wp_drainPair (K : Dev nD × CK → ℕ) (c : Dev nD) (h : Fin 7) (a b : Memref sig .tc .hbm S512x8192 .f32) (ha : a.view.WordExact) (hb : b.view.WordExact)
    (hNa : a.view.dmaCredit = N) (hNb : b.view.dmaCredit = N) (Q : PUnit → sProp 𝕄) :
    iprop(known m K ∗ drains false c h.val ∗ drains true c h.val ∗ owing c 7
        ∗ ((drains false c (h.val + 1) ∗ drains true c (h.val + 1) ∗ owing c 7 ∗ sendPay m false h c ∗ sendPay m true h c) -∗ Q ⟨⟩))
      ⊢ WP c (drained false h a ha >>= fun _ => drained true h b hb) Q := by
  iintro ⟨#HK, Hf, Ht, HO, Hk⟩
  iapply (wp_then c (drained false h a ha) (drained true h b hb) Q)
  iapply (wp_drained m K false h c a ha hNa _)
  isplitr; · iexact HK
  isplitl [Hf]; · iexact Hf
  isplitl [HO]; · iexact HO
  iintro ⟨Hf, HO, Hpf⟩
  iapply (wp_drained m K true h c b hb hNb Q)
  isplitr; · iexact HK
  isplitl [Ht]; · iexact Ht
  isplitl [HO]; · iexact HO
  iintro ⟨Ht, HO, Hpt⟩
  iapply Hk
  isplitl [Hf]; · iexact Hf
  isplitl [Ht]; · iexact Ht
  isplitl [HO]; · iexact HO
  isplitl [Hpf]; · iexact Hpf
  iexact Hpt

/-- Completions awaited up to hop `n`. -/
def draining (n : ℕ) (c : Dev nD) : sProp 𝕄 := iprop(drains false c n ∗ drains true c n ∗ owing c 7)

/-- A later hop's completions hand nothing back. -/
theorem wp_drain (K : Dev nD × CK → ℕ) (c : Dev nD) (h h' : Fin 7) (hh : h'.val = h.val + 1) (Q : PUnit → sProp 𝕄) :
    iprop(known m K ∗ draining h'.val c ∗ (draining (h'.val + 1) c -∗ Q ⟨⟩)) ⊢ WP c (drain h h') Q := by
  unfold drain draining
  iintro ⟨#HK, ⟨Hf, Ht, HO⟩, Hk⟩
  iapply (wp_drainPair m K c h' (slot false h) (slot true h) _ _ (slot_credit false h) (slot_credit true h) Q)
  isplitr; · iexact HK
  isplitl [Hf]; · iexact Hf
  isplitl [Ht]; · iexact Ht
  isplitl [HO]; · iexact HO
  iintro ⟨Hf, Ht, HO, -, -⟩
  iapply Hk
  isplitl [Hf]; · iexact Hf
  isplitl [Ht]; · iexact Ht
  iexact HO

/-! ## The body -/

/-- The tokens a side's sends spend, and their cells' positions. -/
def sendToks (s : Bool) (c : Dev nD) : sProp 𝕄 :=
  bigSep Finset.univ fun h : Fin 7 => iprop(dutyTok ER (recvCell s h (dn s c)) 0 false ∗ dutyTok ER (sendCell s h c) 0 false ∗ atPos ER (sendCell s h c) 0 ∅ 0)
/-- A side's landings to come. -/
def landToks (s : Bool) (c : Dev nD) : sProp 𝕄 := bigSep Finset.univ fun h : Fin 7 => landTodo s c h

theorem lands_start (s : Bool) (c : Dev nD) : (landToks s c : sProp 𝕄) ⊢ lands s c 0 := by
  unfold landToks lands; rw [upTo_zero]
theorem sends_start (s : Bool) (c : Dev nD) : iprop(sendToks s c ∗ slotsFree s (dn s c)) ⊢ (sends s c 0 : sProp 𝕄) := by
  unfold sendToks slotsFree sends
  rw [upTo_zero, ← bigSep_sep']
  refine bigSep_mono fun h _ => ?_
  unfold sendTodo
  show iprop((_ ∗ _ ∗ _) ∗ _) ⊢ (iprop(_ ∗ _ ∗ _ ∗ _) : sProp 𝕄)
  iintro ⟨⟨H1, H2, H3⟩, H4⟩
  isplitl [H1]; · iexact H1
  isplitl [H2]; · iexact H2
  isplitl [H3]; · iexact H3
  iexact H4

/-- What the body starts from. -/
def before (c : Dev nD) : sProp 𝕄 :=
  iprop(dutyTok ER (barCell (up false c)) 0 false ∗ dutyTok ER (barCell (up true c)) 0 true ∗ atPos ER (barCell c) 0 ∅ 0
    ∗ cred (tallyAt (barCell c) () 2) ∗ slotsFree false c ∗ slotsFree true c ∗ landToks false c ∗ landToks true c ∗ sendToks false c ∗ sendToks true c
    ∗ xPts m false c fullShare ∗ xPts m true c fullShare ∗ bench m ∅ c)
/-- What it ends with. -/
def after (c : Dev nD) : sProp 𝕄 :=
  iprop(semVal (barCell c) 0 ∗ lands false c 7 ∗ lands true c 7 ∗ drains false c 7 ∗ drains true c 7
    ∗ xPts m false c fullShare ∗ xPts m true c fullShare ∗ bench m Finset.univ c)

/-- The share a send read joins the share a tile read. -/
theorem x_join (s : Bool) (c : Dev nD) : iprop(sendPay m s 0 c ∗ xPts m s c fullShare.right) ⊢ (xPts m s c fullShare : sProp 𝕄) := by
  unfold sendPay xPts
  rw [if_pos rfl]
  exact (pointsTo_share (PosShare.mem_left_op_right fullShare)).2

/-- Two steps and then the rest. -/
theorem wp_then₂ (c : Dev nD) (p q r : Prog (TpuEff nD τ sig (Elt F) Λ₀ .tc) PUnit) (Q : PUnit → sProp 𝕄) :
    WP c (p >>= fun _ => q) (fun _ => WP c r Q) ⊢ WP c (p >>= fun _ => q >>= fun _ => r) Q := by
  unfold WP; rw [wp_bind, wp_bind]; simp only [wp_bind]; exact Entails.rfl

/-- The body, from the launch's holdings to the end's. -/
theorem wp_body (K : Dev nD × CK → ℕ) (c : Dev nD) (Q : PUnit → sProp 𝕄) :
    iprop(known m K ∗ before m c ∗ (∃ W, owes (c : Thread nD τ) (O₀ c) W) ∗ ((after m c ∗ owing c 7) -∗ Q ⟨⟩)) ⊢ WP c (bodyOn c) Q := by
  obtain ⟨hu₁, hu₂⟩ := devs_up c
  obtain ⟨h₀, h₁, h₂, h₃, h₄, h₅, h₆⟩ := devs_dn c
  unfold bodyOn before after
  iintro ⟨#HK, ⟨Ht1, Ht2, Hat, Hc, Hsf, Hst, Hlf, Hlt, Hkf, Hkt, Hx, Hy, Hbe⟩, HO, Hk⟩
  ihave Hlf := (lands_start false c) $$ Hlf
  ihave Hlt := (lands_start true c) $$ Hlt
  iapply (wp_then c (handshake _ _) _ Q)
  iapply (wp_handshake m K c _ _ hu₁ hu₂ _)
  isplitr; · iexact HK
  isplitl [Ht1]; · iexact Ht1
  isplitl [Ht2]; · iexact Ht2
  isplitl [Hat]; · iexact Hat
  isplitl [Hc]; · iexact Hc
  isplitl [Hsf]; · iexact Hsf
  isplitl [Hst]; · iexact Hst
  isplitl [HO]; · iexact HO
  iintro ⟨Hz, Hsf, Hst, HO⟩
  ihave Hsf := (sends_start false c) $$ [Hkf Hsf]
  · isplitl [Hkf]; · iexact Hkf
    iexact Hsf
  ihave Hst := (sends_start true c) $$ [Hkt Hst]
  · isplitl [Hkt]; · iexact Hkt
    iexact Hst
  iapply (wp_then c (opening _ _ _ _ _ _) _ Q)
  iapply (wp_opening m K c _ _ h₀.1 h₀.2 _ _ _ _ (off1_at c).1 (off1_at c).2 _)
  isplitr; · iexact HK
  isplitl [Hsf]; · iexact Hsf
  isplitl [Hst]; · iexact Hst
  isplitl [Hx]; · iexact Hx
  isplitl [Hy]; · iexact Hy
  isplitl [Hbe]; · iexact Hbe
  isplitl [HO]; · iexact HO
  iintro ⟨Hsf, Hst, Hx, Hy, Hbe, HO⟩
  iapply (wp_then c (hop 0 1 _ _ _ _ _ _) _ Q)
  iapply (wp_hop m K c 0 1 rfl _ _ h₁.1 h₁.2 _ _ _ _ (off2_at 0 c) (off3_at 0 c) _)
  isplitr; · iexact HK
  isplitl [Hlf Hlt Hsf Hst Hbe HO]
  · unfold running
    isplitl [Hlf]; · iexact Hlf
    isplitl [Hlt]; · iexact Hlt
    isplitl [Hsf]; · iexact Hsf
    isplitl [Hst]; · iexact Hst
    isplitl [Hbe]; · iexact Hbe
    iexact HO
  iintro HR
  iapply (wp_then c (hop 1 2 _ _ _ _ _ _) _ Q)
  iapply (wp_hop m K c 1 2 rfl _ _ h₂.1 h₂.2 _ _ _ _ (off2_at 1 c) (off3_at 1 c) _)
  isplitr; · iexact HK
  isplitl [HR]; · iexact HR
  iintro HR
  iapply (wp_then c (hop 2 3 _ _ _ _ _ _) _ Q)
  iapply (wp_hop m K c 2 3 rfl _ _ h₃.1 h₃.2 _ _ _ _ (off2_at 2 c) (off3_at 2 c) _)
  isplitr; · iexact HK
  isplitl [HR]; · iexact HR
  iintro HR
  iapply (wp_then c (hop 3 4 _ _ _ _ _ _) _ Q)
  iapply (wp_hop m K c 3 4 rfl _ _ h₄.1 h₄.2 _ _ _ _ (off2_at 3 c) (off3_at 3 c) _)
  isplitr; · iexact HK
  isplitl [HR]; · iexact HR
  iintro HR
  iapply (wp_then c (hop 4 5 _ _ _ _ _ _) _ Q)
  iapply (wp_hop m K c 4 5 rfl _ _ h₅.1 h₅.2 _ _ _ _ (off2_at 4 c) (off3_at 4 c) _)
  isplitr; · iexact HK
  isplitl [HR]; · iexact HR
  iintro HR
  iapply (wp_then c (hop 5 6 _ _ _ _ _ _) _ Q)
  iapply (wp_hop m K c 5 6 rfl _ _ h₆.1 h₆.2 _ _ _ _ (off2_at 5 c) (off3_at 5 c) _)
  isplitr; · iexact HK
  isplitl [HR]; · iexact HR
  iintro HR
  iapply (wp_then₂ c (land 6) (tiles 6 _ _ _ _) _ Q)
  iapply (wp_last m K c _ _ _ _ (off2_at 6 c) (off3_at 6 c) _)
  isplitr; · iexact HK
  isplitl [HR]; · iexact HR
  rw [filled_all, sends_drains, sends_drains]
  iintro ⟨Hlf, Hlt, Hdf, Hdt, Hbe, HO⟩
  iapply (wp_then₂ c (drained false 0 _ _) (drained true 0 _ _) _ Q)
  iapply (wp_drainPair m K c 0 (xHalf false) (xHalf true) _ _ (xHalf_credit false) (xHalf_credit true) _)
  isplitr; · iexact HK
  isplitl [Hdf]; · iexact Hdf
  isplitl [Hdt]; · iexact Hdt
  isplitl [HO]; · iexact HO
  iintro ⟨Hdf, Hdt, HO, Hx', Hy'⟩
  ihave HD : draining 1 c $$ [Hdf Hdt HO]
  · unfold draining
    isplitl [Hdf]; · iexact Hdf
    isplitl [Hdt]; · iexact Hdt
    iexact HO
  iapply (wp_then c (drain 0 1) _ Q)
  iapply (wp_drain m K c 0 1 rfl _)
  isplitr; · iexact HK
  isplitl [HD]; · iexact HD
  iintro HD
  iapply (wp_then c (drain 1 2) _ Q)
  iapply (wp_drain m K c 1 2 rfl _)
  isplitr; · iexact HK
  isplitl [HD]; · iexact HD
  iintro HD
  iapply (wp_then c (drain 2 3) _ Q)
  iapply (wp_drain m K c 2 3 rfl _)
  isplitr; · iexact HK
  isplitl [HD]; · iexact HD
  iintro HD
  iapply (wp_then c (drain 3 4) _ Q)
  iapply (wp_drain m K c 3 4 rfl _)
  isplitr; · iexact HK
  isplitl [HD]; · iexact HD
  iintro HD
  iapply (wp_then c (drain 4 5) _ Q)
  iapply (wp_drain m K c 4 5 rfl _)
  isplitr; · iexact HK
  isplitl [HD]; · iexact HD
  iintro HD
  iapply (wp_drain m K c 5 6 rfl _)
  isplitr; · iexact HK
  isplitl [HD]; · iexact HD
  unfold draining
  iintro ⟨Hdf, Hdt, HO⟩
  iapply Hk
  isplitr [HO]
  · isplitl [Hz]; · iexact Hz
    isplitl [Hlf]; · iexact Hlf
    isplitl [Hlt]; · iexact Hlt
    isplitl [Hdf]; · iexact Hdf
    isplitl [Hdt]; · iexact Hdt
    isplitl [Hx Hx']
    · iapply (x_join m false c)
      isplitl [Hx']; · iexact Hx'
      iexact Hx
    isplitl [Hy Hy']
    · iapply (x_join m true c)
      isplitl [Hy']; · iexact Hy'
      iexact Hy
    iexact Hbe
  iexact HO

end Cert.AllGather
end
-- ==== Proof.Parts.lean ====
/-
Whole buffers cut into the pieces the body works on: the argument into its two halves, a gather buffer into its seven
slots, the two-slot scratch buffers into their slots.
-/
module

public import proofs.«01_k».proof.Proof.Body
public import Idealize.ShloMosaic.Lib.Ring

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A family over the two sides, spelled out. -/
theorem bigSep_sides (Φ : Bool → sProp 𝕄) : bigSep Finset.univ Φ = iprop(Φ false ∗ Φ true) :=
  bigSep_univ_eq_bigSepL [false, true] (by decide) (by decide) Φ

/-- Whole buffers are families of pieces that lie apart and cover them; a piece held is held at some contents. -/
theorem pieces_of {ℓ : Loc nD τ sig} {B : Type} [Fintype B] (I : B → Finset (Idx ℓ)) (hd : ∀ b b', b ≠ b' → Disjoint (I b) (I b'))
    (hc : Finset.univ.biUnion I = Finset.univ) (f : Buf (Elt F) ℓ) :
    (ℓ ↦{fullShare} f : sProp 𝕄) ⊢ bigSep Finset.univ fun b => iprop(∃ f, ℓ ↦[I b]{fullShare} f) :=
  (Entails.of_eq (Ring.pointsTo_blocks I hd hc f)).trans (bigSep_mono fun b _ =>
    show (ℓ ↦[I b]{fullShare} f : sProp 𝕄) ⊢ iprop(∃ f, ℓ ↦[I b]{fullShare} f) from by iintro H; iexists f; iexact H)

/-! ## The argument's two halves -/

abbrev xRect (s : Bool) : Rect S1024x8192 := Rect.unit (s := S1024x8192) ![top s, 0] S512x8192.size (half_inb s)

theorem xRect_apart (s s' : Bool) (h : s ≠ s') : Disjoint (xRect s).set (xRect s').set := by
  refine Rect.unit_disjoint 0 ?_
  show top s + 512 ≤ top s' ∨ top s' + 512 ≤ top s
  cases s <;> cases s' <;> first | exact absurd rfl h | decide

theorem xRect_cover : Finset.univ.biUnion (fun s : Bool => (xRect s).set) = Finset.univ := by
  ext i
  simp only [Finset.mem_biUnion, Finset.mem_univ, true_and, iff_true, Rect.mem_set_unit]
  have h0 : (i 0).val < 1024 := (i 0).isLt
  have h1 : (i 1).val < 0 + 8192 := (Nat.zero_add 8192).symm ▸ (i 1).isLt
  rcases Nat.lt_or_ge (i 0).val 512 with h | h
  · exact ⟨false, Fin.forall_fin_two.mpr ⟨⟨Nat.zero_le _, (Nat.zero_add 512).symm ▸ h⟩, ⟨Nat.zero_le _, h1⟩⟩⟩
  · exact ⟨true, Fin.forall_fin_two.mpr ⟨⟨h, h0⟩, ⟨Nat.zero_le _, h1⟩⟩⟩

/-- The argument whole is its two halves. -/
theorem x_parts (c : Dev nD) : ((c : Thread nD τ).loc main_arg0 ↦{fullShare} m ((c : Thread nD τ).loc main_arg0) : sProp 𝕄)
    = iprop(xPts m false c fullShare ∗ xPts m true c fullShare) := by
  rw [← bigSep_sides fun s => xPts m s c fullShare, Ring.pointsTo_blocks (ℓ := (c : Thread nD τ).loc main_arg0) (fun s : Bool => (xRect s).set) xRect_apart xRect_cover]
  refine bigSep_congr fun s _ => ?_
  unfold xPts
  rw [show (xHalf s).view.set = (xRect s).set from View.set_slice_whole _ _]

/-! ## A gather buffer's slots -/

abbrev slotRect (h : Fin 7) : Rect S7x512x8192 := Rect.unit (s := S7x512x8192) ![h.val, 0, 0] S1x512x8192.size (slot_inb h)

theorem slotRect_off (h : Fin 7) (a : Fin 3) (ha : a ≠ 0) : (![h.val, 0, 0] : Fin 3 → ℕ) a = 0 := by
  fin_cases a
  · exact absurd rfl ha
  · rfl
  · rfl

theorem slotRect_size (a : Fin 3) (ha : a ≠ 0) : S1x512x8192.size a = S7x512x8192.size a := by
  fin_cases a
  · exact absurd rfl ha
  · rfl
  · rfl

theorem slotRect_apart (h h' : Fin 7) (e : h ≠ h') : Disjoint (slotRect h).set (slotRect h').set :=
  Ring.lead_disjoint (s := S7x512x8192) 0 1 (fun h : Fin 7 => ![h.val, 0, 0]) S1x512x8192.size slot_inb (fun b => (Nat.one_mul _).symm) rfl h h' e

theorem slotRect_cover : Finset.univ.biUnion (fun h => (slotRect h).set) = Finset.univ :=
  Ring.lead_cover (s := S7x512x8192) 0 1 (fun h : Fin 7 => ![h.val, 0, 0]) S1x512x8192.size slot_inb (fun b => (Nat.one_mul _).symm)
    slotRect_off rfl slotRect_size rfl

/-- A gather buffer whole is its seven slots. -/
theorem g_parts (s : Bool) (c : Dev nD) (f : Buf (Elt F) ((c : Thread nD τ).loc (gRef s))) :
    ((c : Thread nD τ).loc (gRef s) ↦{fullShare} f : sProp 𝕄) ⊢ slotsFree s c := by
  unfold slotsFree slotFree
  cases s
  · refine (pieces_of (ℓ := (c : Thread nD τ).loc main_v1_1) (fun h => (slotRect h).set) slotRect_apart slotRect_cover f).trans (Entails.of_eq (bigSep_congr fun h _ => ?_))
    rw [show (slot false h).view.set = (slotRect h).set from (View.set_reshape _ _).trans (View.set_slice_whole _ _)]
  · refine (pieces_of (ℓ := (c : Thread nD τ).loc main_v1_2) (fun h => (slotRect h).set) slotRect_apart slotRect_cover f).trans (Entails.of_eq (bigSep_congr fun h _ => ?_))
    rw [show (slot true h).view.set = (slotRect h).set from (View.set_reshape _ _).trans (View.set_slice_whole _ _)]

/-! ## The scratch buffers' slots -/

theorem pos_apart {s s' : Bool} (h : s ≠ s') : pos s + 1 ≤ pos s' ∨ pos s' + 1 ≤ pos s := by
  cases s <;> cases s' <;> first | exact absurd rfl h | decide

/-- The side whose slot an index of a two-slot buffer lies in. -/
theorem pos_of (n : ℕ) (h : n < 2) : ∃ s : Bool, pos s ≤ n ∧ n < pos s + 1 := by
  rcases Nat.lt_or_ge n 1 with h' | h'
  · exact ⟨false, Nat.zero_le _, h'⟩
  · exact ⟨true, h', h⟩

theorem stRect_apart (s s' : Bool) (h : s ≠ s') : Disjoint (stRect s).set (stRect s').set := Rect.unit_disjoint 0 (pos_apart h)
theorem acRect_apart (s s' : Bool) (h : s ≠ s') : Disjoint (acRect s).set (acRect s').set := Rect.unit_disjoint 0 (pos_apart h)

theorem stRect_cover : Finset.univ.biUnion (fun s : Bool => (stRect s).set) = Finset.univ := by
  ext i
  simp only [Finset.mem_biUnion, Finset.mem_univ, true_and, iff_true, Rect.mem_set_unit]
  obtain ⟨s, h⟩ := pos_of (i 0).val (i 0).isLt
  have h1 : (i 1).val < 0 + 512 := (Nat.zero_add 512).symm ▸ (i 1).isLt
  have h2 : (i 2).val < 0 + 8192 := (Nat.zero_add 8192).symm ▸ (i 2).isLt
  exact ⟨s, Fin.forall_fin_succ.mpr ⟨h, Fin.forall_fin_two.mpr ⟨⟨Nat.zero_le _, h1⟩, ⟨Nat.zero_le _, h2⟩⟩⟩⟩
theorem acRect_cover : Finset.univ.biUnion (fun s : Bool => (acRect s).set) = Finset.univ := by
  ext i
  simp only [Finset.mem_biUnion, Finset.mem_univ, true_and, iff_true, Rect.mem_set_unit]
  obtain ⟨s, h⟩ := pos_of (i 0).val (i 0).isLt
  have h1 : (i 1).val < 0 + 512 := (Nat.zero_add 512).symm ▸ (i 1).isLt
  have h2 : (i 2).val < 0 + 512 := (Nat.zero_add 512).symm ▸ (i 2).isLt
  exact ⟨s, Fin.forall_fin_succ.mpr ⟨h, Fin.forall_fin_two.mpr ⟨⟨Nat.zero_le _, h1⟩, ⟨Nat.zero_le _, h2⟩⟩⟩⟩

theorem st_eq (s : Bool) (c : Dev nD) : (stFree s c : sProp 𝕄)
    = iprop(∃ f, ((c : Thread nD τ).loc cc0_scratch0) ↦[(stRect s).set]{fullShare} f) := by
  unfold stFree
  rw [show (stSlot s).view.set = (stRect s).set from (View.set_reshape _ _).trans (View.set_slice_whole _ _)]
theorem ac_eq (s : Bool) (c : Dev nD) : (acFree s c : sProp 𝕄)
    = iprop(∃ f, ((c : Thread nD τ).loc cc0_scratch1) ↦[(acRect s).set]{fullShare} f) := by
  unfold acFree
  rw [show (acSlot s).view.set = (acRect s).set from (View.set_reshape _ _).trans (View.set_slice_whole _ _)]

/-- A buffer held whole at some contents. -/
abbrev anyPts (c : Dev nD) (b : Ref sig .tc) : sProp 𝕄 := iprop(∃ f : Buf (Elt F) ((c : Thread nD τ).loc b), (c : Thread nD τ).loc b ↦{fullShare} f)

/-- The staging scratch buffer is its two slots, -/
theorem st_parts (c : Dev nD) : (anyPts c cc0_scratch0 : sProp 𝕄) ⊢ iprop(stFree false c ∗ stFree true c) := by
  rw [st_eq, st_eq, ← bigSep_sides fun s => iprop(∃ f, ((c : Thread nD τ).loc cc0_scratch0) ↦[(stRect s).set]{fullShare} f)]
  iintro ⟨%f, H⟩
  iapply (pieces_of (ℓ := (c : Thread nD τ).loc cc0_scratch0) (fun s : Bool => (stRect s).set) stRect_apart stRect_cover f)
  iexact H
/-- and back; -/
theorem st_join (c : Dev nD) : iprop(stFree false c ∗ stFree true c) ⊢ (anyPts c cc0_scratch0 : sProp 𝕄) := by
  rw [st_eq, st_eq, ← bigSep_sides fun s => iprop(∃ f, ((c : Thread nD τ).loc cc0_scratch0) ↦[(stRect s).set]{fullShare} f)]
  exact Ring.pointsTo_blocks_join_exists (ℓ := (c : Thread nD τ).loc cc0_scratch0) (fun s : Bool => (stRect s).set) stRect_apart stRect_cover (fun _ => Classical.ofNonempty)
/-- the accumulator's is its two, -/
theorem ac_parts (c : Dev nD) : (anyPts c cc0_scratch1 : sProp 𝕄) ⊢ iprop(acFree false c ∗ acFree true c) := by
  rw [ac_eq, ac_eq, ← bigSep_sides fun s => iprop(∃ f, ((c : Thread nD τ).loc cc0_scratch1) ↦[(acRect s).set]{fullShare} f)]
  iintro ⟨%f, H⟩
  iapply (pieces_of (ℓ := (c : Thread nD τ).loc cc0_scratch1) (fun s : Bool => (acRect s).set) acRect_apart acRect_cover f)
  iexact H
/-- and back. -/
theorem ac_join (c : Dev nD) : iprop(acFree false c ∗ acFree true c) ⊢ (anyPts c cc0_scratch1 : sProp 𝕄) := by
  rw [ac_eq, ac_eq, ← bigSep_sides fun s => iprop(∃ f, ((c : Thread nD τ).loc cc0_scratch1) ↦[(acRect s).set]{fullShare} f)]
  exact Ring.pointsTo_blocks_join_exists (ℓ := (c : Thread nD τ).loc cc0_scratch1) (fun s : Bool => (acRect s).set) acRect_apart acRect_cover (fun _ => Classical.ofNonempty)

end Cert.AllGather
end
-- ==== Proof.Credits.lean ====
/-
What the launch credits each device with: the two units its barrier cell is owed, and one half block's credit for each
of its receive cells. And families over a device's cells, taken apart by side and hop.
-/
module

public import proofs.«01_k».proof.Proof.Parts

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over cells -/

/-- A family over an index or nothing. -/
theorem bigSep_maybe {A : Type} [Fintype A] [DecidableEq A] (Φ : Option A → sProp 𝕄) :
    bigSep Finset.univ Φ = iprop(Φ none ∗ bigSep Finset.univ fun a => Φ (some a)) := by
  have e : (Finset.univ : Finset (Option A)) = insert none (Finset.univ.map Function.Embedding.some) := by
    ext x; cases x <;> simp
  rw [e, BI.bigSep_insert (by simp), bigSep_map]; rfl

/-- A family over sides and hops, side by side. -/
theorem bigSep_hops (Φ : Bool × Fin 7 → sProp 𝕄) :
    bigSep Finset.univ Φ = iprop((bigSep Finset.univ fun h => Φ (false, h)) ∗ bigSep Finset.univ fun h => Φ (true, h)) := by
  rw [bigSep_univ_prod, bigSep_sides]

/-- A family over the transfer cells: the sends' and the receives', each side by side. -/
theorem bigSep_xfers (Φ : Bool × Bool × Fin 7 → sProp 𝕄) :
    bigSep Finset.univ Φ = iprop(((bigSep Finset.univ fun h => Φ (false, false, h)) ∗ bigSep Finset.univ fun h => Φ (false, true, h))
      ∗ ((bigSep Finset.univ fun h => Φ (true, false, h)) ∗ bigSep Finset.univ fun h => Φ (true, true, h))) := by
  rw [bigSep_univ_prod, bigSep_sides, bigSep_hops, bigSep_hops]

/-! ## What is owed, cell by cell -/

/-- A tally at one cell, read at another. -/
theorem tally_at (a b : Dev nD × CK) (n : ℕ) : (tallyAt (kcell a) () n : CellTallies nD τ sig Unit) (kcell b) () = if b = a then n else 0 := by
  rw [tallyAt_apply]
  by_cases h : b = a
  · rw [if_pos h, if_pos ⟨congrArg kcell h, rfl⟩]
  · rw [if_neg h, if_neg fun h' => h (kcell_inj h'.1)]

/-- A device's transfers, read at a cell. -/
theorem owed_at (d : Dev nD) (b : Dev nD × CK) :
    owed 0 d (kcell b) () = ∑ j : Fin 7, ∑ s : Bool, if b = (dn s d, some (true, s, j)) then N else 0 := by
  unfold owed
  rw [Finset.sum_apply, Finsupp.finset_sum_apply, Finset.filter_true_of_mem fun j _ => Nat.zero_le _]
  refine Finset.sum_congr rfl fun j _ => ?_
  unfold owedHop
  rw [Pi.add_apply, Finsupp.add_apply, tally_at, tally_at, Fintype.sum_bool]

/-- All a device owes, read at a cell. -/
theorem O₀_at (d : Dev nD) (b : Dev nD × CK) :
    O₀ d (kcell b) () = (owed 0 d (kcell b) () + if b = (up true d, none) then 1 else 0) + if b = (up false d, none) then 1 else 0 := by
  unfold O₀
  rw [Pi.add_apply, Finsupp.add_apply, Pi.add_apply, Finsupp.add_apply, tally_at, tally_at]

/-- Device `d` owes a receive cell a half block's credit if it is the one that sends there; -/
theorem O₀_recv (s : Bool) (h : Fin 7) (c d : Dev nD) : O₀ d (recvCell s h c) () = if d = up s c then N else 0 := by
  rw [O₀_at, owed_at, if_neg (by simp), if_neg (by simp), Nat.add_zero,
    Finset.sum_eq_single h (fun j _ hj => Finset.sum_eq_zero fun s' _ => if_neg (by simp [Ne.symm hj])) (fun hn => absurd (Finset.mem_univ _) hn),
    Finset.sum_eq_single s (fun s' _ hs => if_neg (by simp [Ne.symm hs])) (fun hn => absurd (Finset.mem_univ _) hn)]
  by_cases e : d = up s c
  · rw [if_pos e, if_pos (by rw [e, dn_up])]
  · rw [if_neg e, if_neg fun e' => e (by rw [show c = _ from congrArg Prod.fst e', up_dn])]

/-- and a barrier cell a unit for each side on which it is the neighbour. -/
theorem O₀_bar (c d : Dev nD) : O₀ d (barCell c) () = (if d = dn true c then 1 else 0) + if d = dn false c then 1 else 0 := by
  have hside (s : Bool) : (if ((c, none) : Dev nD × CK) = (up s d, none) then 1 else 0) = if d = dn s c then 1 else 0 := by
    by_cases e : d = dn s c
    · rw [if_pos e, if_pos (by rw [e, up_dn])]
    · rw [if_neg e, if_neg fun e' => e (by rw [show c = _ from congrArg Prod.fst e', dn_up])]
  rw [O₀_at, owed_at, hside, hside, Finset.sum_eq_zero (fun j _ => Finset.sum_eq_zero fun s _ => if_neg (by simp)), Nat.zero_add]

theorem launch_recv (s : Bool) (h : Fin 7) (c : Dev nD) :
    tallyOn (recvCell s h c) (launchCredit (Pipeline.owing O₀) 0 (recvCell s h c)) = (tallyAt (recvCell s h c) () N : CellTallies nD τ sig Unit) := by
  unfold tallyAt
  refine congrArg _ (Finsupp.ext fun u => ?_)
  cases u
  rw [Pipeline.launchCredit_owing, Finsupp.single_eq_same, Finset.sum_congr rfl fun d _ => O₀_recv s h c d,
    Finset.sum_ite_eq' Finset.univ (up s c) fun _ => N, if_pos (Finset.mem_univ _)]

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => O₀_bar c d, Finset.sum_add_distrib,
    Finset.sum_ite_eq' Finset.univ (dn true c) fun _ => 1, Finset.sum_ite_eq' Finset.univ (dn false c) fun _ => 1,
    if_pos (Finset.mem_univ _), if_pos (Finset.mem_univ _)]

/-- A side's receive cells' credits. -/
def landCreds (s : Bool) (c : Dev nD) : sProp 𝕄 := bigSep Finset.univ fun h : Fin 7 => cred (tallyAt (recvCell s h c) () N)

/-- The semaphores the launch credits. -/
def credSem : Option (Bool × Fin 7) ↪ SemLoc sig where
  toFun := fun | none => csem none | some x => csem (some (true, x))
  inj' := by
    intro a b h
    rcases a with _ | x <;> rcases b with _ | y
    · rfl
    · exact absurd (csem_inj h) (by simp)
    · exact absurd (csem_inj h) (by simp)
    · have := csem_inj h; simp at this; rw [this]

/-- The launch's credit to a device. -/
theorem creds (c : Dev nD) :
    (Pipeline.launchCred O₀ c : sProp 𝕄) ⊢ iprop(cred (tallyAt (barCell c) () 2) ∗ landCreds false c ∗ landCreds true c) := by
  unfold Pipeline.launchCred
  refine (BI.bigSep_subset (Finset.subset_univ (Finset.univ.map credSem))).trans ?_
  rw [bigSep_map, bigSep_maybe, bigSep_hops]
  unfold landCreds
  rw [← launch_bar c]
  simp only [← launch_recv]
  exact BI.Entails.refl _

end Cert.AllGather
end
-- ==== Proof.Deal.lean ====
/-
The ring's ghost state at launch: every cell's invariant allocated, every device given its positions and the tokens of
the duties it pays.
-/
module

public import proofs.«01_k».proof.Proof.Credits

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own semaphores: the transfer cells', and the two sides' local transfers'. -/
def osem : (Bool × Bool × Fin 7) ⊕ Bool → SemLoc sig
  | .inl x => csem (some x)
  | .inr s => .dma (locS s)

theorem ownSemFacts : Pipeline.OwnSemFacts cfg0.spec osem := by decide +kernel

/-! ## Cells and tokens -/

def ringCells : Finset (GSem nD τ sig) := Finset.univ.map ⟨kcell, kcell_inj⟩

/-- A duty of a device's own cells: of its barrier cell by side, and of each transfer cell. -/
abbrev Duty : Type := Bool ⊕ (Bool × Bool × Fin 7)
def dutyOf (cj : Dev nD × Duty) : GSem nD τ sig × ℕ × Bool := match cj.2 with
  | .inl s => (barCell cj.1, 0, s)
  | .inr x => (kcell (cj.1, some x), 0, false)

theorem dutyOf_inj : Function.Injective dutyOf := by
  rintro ⟨c, j⟩ ⟨c', j'⟩ h
  have hc (k k' : CK) (b b' : Bool) (h : (kcell (c, k), 0, b) = ((kcell (c', k'), 0, b') : GSem nD τ sig × ℕ × Bool)) : c = c' ∧ k = k' ∧ b = b' := by
    have h1 := kcell_inj (congrArg Prod.fst h)
    exact ⟨congrArg Prod.fst h1, congrArg Prod.snd h1, congrArg (fun x : GSem nD τ sig × ℕ × Bool => x.2.2) h⟩
  rcases j with s | x <;> rcases j' with s' | x'
  · obtain ⟨rfl, -, rfl⟩ := hc none none s s' h; rfl
  · exact absurd (hc none (some x') s false h).2.1 (by simp)
  · exact absurd (hc (some x) none false s' h).2.1 (by simp)
  · obtain ⟨rfl, e, -⟩ := hc (some x) (some x') false false h; rw [Option.some.inj e]

def ringToks : Finset (GSem nD τ sig × ℕ × Bool) := Finset.univ.map ⟨dutyOf, dutyOf_inj⟩

/-- The launch element: the pipeline's, the ring's, and no counters yet. -/
def u₀ : UU :=
  (initOf (Pipeline.cells cfgs cellOf_inj) (Pipeline.launchToks cfgs cellOf_inj), (initOf ringCells ringToks, 1))

/-- The launch element's two parts in use. -/
theorem u₀_split : (ownU u₀ : sProp 𝕄)
    ⊢ iprop(BI.own (EP (F := F) (initOf (Pipeline.cells cfgs cellOf_inj) (Pipeline.launchToks cfgs cellOf_inj))) ∗ BI.own (ER (initOf ringCells ringToks))) := by
  unfold u₀
  iintro H
  ihave H2 := (ownU_pair _ _) $$ H
  icases H2 with ⟨H1, H2⟩
  isplitl [H1]; · iexact H1
  ihave H3 := (own_pair_emb _ _ _) $$ H2
  icases H3 with ⟨H3, -⟩
  iexact H3

/-- The tokens of a device's own cells' duties. -/
def toks (c : Dev nD) : sProp 𝕄 :=
  iprop((dutyTok ER (barCell c) 0 false ∗ dutyTok ER (barCell c) 0 true)
    ∗ bigSep Finset.univ fun x : Bool × Bool × Fin 7 => dutyTok ER (kcell (c, some x)) 0 false)

/-- What the launch element gives a device. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

theorem over_cells (Φ : GSem nD τ sig → sProp 𝕄) :
    bigSep ringCells Φ = bigSep Finset.univ fun c : Dev nD => bigSep Finset.univ fun k : CK => Φ (kcell (c, k)) := by
  unfold ringCells; rw [bigSep_map, bigSep_univ_prod]; rfl

theorem over_toks : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [BI.bigSep_univ_sum, bigSep_sides]
  unfold toks; rfl

theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst' := (Entails.of_eq (over_cells fun g => roundState ER (ringRd m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-! ## Semaphores at zero -/

/-- The kernel's own semaphores at zero: its transfer cells' and its local transfers'. -/
theorem ownSems0_eq (c : Dev nD) : (Pipeline.ownSems0 (Ix := Unit) (Name := ℕ) (U := UU) (Lvl := ℕ) (Val := Elt F) (τ := τ) osem c : sProp 𝕄)
    = iprop((bigSep Finset.univ fun x => semVal (kcell (c, some x)) 0) ∗ locZ false c ∗ locZ true c) := by
  unfold Pipeline.ownSems0
  rw [BI.bigSep_univ_sum, bigSep_sides]; rfl

/-- The runtime's barrier semaphore is the one the kernel does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The deal -/

/-- A device's positions; -/
def seats (c : Dev nD) : sProp 𝕄 := bigSep Finset.univ fun k : CK => atPos ER (kcell (c, k)) 0 ∅ 0
/-- the tokens of the duties it pays, a side's; -/
def sideToks (s : Bool) (c : Dev nD) : sProp 𝕄 :=
  iprop(dutyTok ER (barCell (up s c)) 0 s ∗ (bigSep Finset.univ fun h : Fin 7 => dutyTok ER (recvCell s h (dn s c)) 0 false)
    ∗ bigSep Finset.univ fun h : Fin 7 => dutyTok ER (sendCell s h c) 0 false)
/-- and what it holds at the start besides the cells' records. -/
def hand (c : Dev nD) : sProp 𝕄 := iprop(seats c ∗ (locZ false c ∗ locZ true c) ∗ sideToks false c ∗ sideToks true c)
def G' (c : Dev nD) : sProp 𝕄 := iprop(∃ K, records m K ∗ hand c)

/-- One device's cells opened for business. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => reached ER (kcell (c, k)) 0) ∗ seats c ∗ (locZ false c ∗ locZ true c) ∗ toks c) := by
  have halloc : iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G seats
  rw [ownSems0_eq, unscopedSems0_eq, bigSep_sep']
  iintro ⟨⟨Hx, Hl⟩, Hb, Hst, ⟨Hat, Hr⟩, Htok⟩
  imod halloc $$ [Hx Hb Hst] with Hinv
  · isplitl [Hx Hb]
    · iapply (Entails.of_eq (bigSep_maybe (F := F) fun k : CK => semVal (kcell (c, k)) 0).symm)
      isplitl [Hb]; · iexact Hb
      iexact Hx
    iexact Hst
  imodintro
  isplitl [Hinv]; · iexact Hinv
  isplitl [Hr]; · iexact Hr
  isplitl [Hat]; · iexact Hat
  isplitl [Hl]; · iexact Hl
  iexact Htok

/-- Something of every device's, counted from its neighbour downstream; -/
theorem from_dn (s : Bool) (Φ : Dev nD → sProp 𝕄) : bigSep Finset.univ Φ = bigSep Finset.univ fun c => Φ (dn s c) :=
  bigSep_univ_equiv (ringOf s) Φ
/-- and upstream. -/
theorem from_up (s : Bool) (Φ : Dev nD → sProp 𝕄) : bigSep Finset.univ Φ = bigSep Finset.univ fun c => Φ (up s c) :=
  bigSep_univ_equiv (ringOf s).symm Φ

/-- The tokens go round the ring to the devices that pay the duties. -/
theorem toks_around : (bigSep Finset.univ fun c : Dev nD => (toks c : sProp 𝕄))
    ⊢ bigSep Finset.univ fun c : Dev nD => iprop(sideToks false c ∗ sideToks true c) := by
  unfold toks sideToks
  simp only [bigSep_xfers, bigSep_sep']
  rw [from_up false fun c => (dutyTok ER (barCell c) 0 false : sProp 𝕄), from_up true fun c => (dutyTok ER (barCell c) 0 true : sProp 𝕄),
    from_dn false fun c => (bigSep Finset.univ fun h : Fin 7 => dutyTok ER (recvCell false h c) 0 false : sProp 𝕄),
    from_dn true fun c => (bigSep Finset.univ fun h : Fin 7 => dutyTok ER (recvCell true h c) 0 false : sProp 𝕄)]
  iintro ⟨⟨H1, H2⟩, ⟨H3, H4⟩, H5, H6⟩
  isplitl [H1 H3 H5]
  · isplitl [H1]; · iexact H1
    isplitl [H5]; · iexact H5
    iexact H3
  isplitl [H2]; · iexact H2
  isplitl [H6]; · iexact H6
  iexact H4

/-- The records, once allocated, are every device's. -/
theorem regroup :
    (bigSep Finset.univ fun c : Dev nD => iprop((bigSep Finset.univ fun k => iprop(∃ κ : ℕ, cellInv ER (ringRd m) κ (kcell (c, k))))
          ∗ (bigSep Finset.univ fun k => reached ER (kcell (c, k)) 0) ∗ seats c ∗ (locZ false c ∗ locZ true c) ∗ toks c) : sProp 𝕄)
      ⊢ bigSep Finset.univ (G' m) := by
  rw [bigSep_sep', bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄))]
  iintro ⟨HI, #HR, Hs, Hl, Ht⟩
  ihave HK := (BI.bigSep_exists_pi Finset.univ (fun (ck : Dev nD × CK) (κ : ℕ) => (cellInv ER (ringRd m) κ (kcell ck) : sProp 𝕄))) $$ HI
  icases HK with ⟨%K, #HI⟩
  ihave Ht := (toks_around (F := F)) $$ Ht
  have hdeal : iprop(records m K ∗ bigSep Finset.univ fun c : Dev nD => hand c) ⊢ (bigSep Finset.univ (G' m) : sProp 𝕄) := by
    refine (sep_mono_left (BI.bigSep_of_persistent (Finset.univ : Finset (Dev nD)) (records m K))).trans ?_
    rw [← bigSep_sep']
    exact bigSep_mono fun c _ => show iprop(records m K ∗ hand c) ⊢ G' m c from by
      unfold G'; iintro H; iexists K; iexact H
  iapply hdeal
  isplitr
  · unfold records; isplitl; · iexact HI
    iexact HR
  · unfold hand
    iapply (Entails.of_eq (by simp only [bigSep_sep'] :
      iprop((bigSep Finset.univ fun c : Dev nD => seats c) ∗ (bigSep Finset.univ fun c : Dev nD => iprop(locZ false c ∗ locZ true c))
        ∗ bigSep Finset.univ fun c : Dev nD => iprop(sideToks false c ∗ sideToks true c)) =
      (bigSep Finset.univ fun c : Dev nD => iprop(seats c ∗ (locZ false c ∗ locZ true c) ∗ sideToks false c ∗ sideToks true c) : sProp 𝕄)))
    isplitl [Hs]; · iexact Hs
    isplitl [Hl]; · iexact Hl
    iexact Ht

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.AllGather
end
-- ==== Proof.Launch.lean ====
/-
The launch: what each device's body starts from and ends with, and the run of the whole program on the eight devices.
-/
module

public import proofs.«01_k».proof.Proof.Deal
public import Idealize.ShloMosaic.Lib.Pipeline.CollectiveSegs

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds around its body -/

/-- The argument whole, as launched. -/
def xWhole (c : Dev nD) : sProp 𝕄 := iprop((c : Thread nD τ).loc main_arg0 ↦{fullShare} m ((c : Thread nD τ).loc main_arg0))

/-- What a device starts from. -/
def start (c : Dev nD) : sProp 𝕄 :=
  iprop(G' m c ∗ levAts L lv ∗ (cred (tallyAt (barCell c) () 2) ∗ landCreds false c ∗ landCreds true c)
    ∗ xWhole m c ∗ oHas m ∅ c ∗ slotsFree false c ∗ slotsFree true c)
/-- The scratch buffers, whatever they hold. -/
def scratch (c : Dev nD) : sProp 𝕄 := iprop(anyPts c cc0_scratch0 ∗ anyPts c cc0_scratch1)

/-- Every cell closed, its counter at zero. -/
def rested (c : Dev nD) : sProp 𝕄 :=
  iprop(semVal (barCell c) 0 ∗ (bigSep Finset.univ fun x => semVal (kcell (c, some x)) 0) ∗ locZ false c ∗ locZ true c)

def Φ₀ (c : Dev nD) : sProp 𝕄 := iprop(start m c ∗ scratch c)
/-- What it ends with: its cells at rest, the argument as it was, every tile of the result in place. -/
def Φ₁ (c : Dev nD) : sProp 𝕄 := iprop(rested c ∗ xWhole m c ∗ oHas m Finset.univ c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's holdings from the launch's, and back -/

theorem seats_split (c : Dev nD) : (seats c : sProp 𝕄) = iprop(atPos ER (barCell c) 0 ∅ 0
    ∗ ((bigSep Finset.univ fun h => atPos ER (sendCell false h c) 0 ∅ 0) ∗ bigSep Finset.univ fun h => atPos ER (sendCell true h c) 0 ∅ 0)
    ∗ ((bigSep Finset.univ fun h => atPos ER (recvCell false h c) 0 ∅ 0) ∗ bigSep Finset.univ fun h => atPos ER (recvCell true h c) 0 ∅ 0)) := by
  unfold seats; rw [bigSep_maybe, bigSep_xfers]

theorem landToks_intro (s : Bool) (c : Dev nD) :
    iprop((bigSep Finset.univ fun h => atPos ER (recvCell s h c) 0 ∅ 0) ∗ landCreds s c) ⊢ (landToks s c : sProp 𝕄) := by
  unfold landCreds landToks landTodo; rw [bigSep_sep']

theorem sendToks_intro (s : Bool) (c : Dev nD) :
    iprop((bigSep Finset.univ fun h : Fin 7 => dutyTok ER (recvCell s h (dn s c)) 0 false) ∗ (bigSep Finset.univ fun h : Fin 7 => dutyTok ER (sendCell s h c) 0 false)
      ∗ bigSep Finset.univ fun h => atPos ER (sendCell s h c) 0 ∅ 0) ⊢ (sendToks s c : sProp 𝕄) := by
  unfold sendToks; rw [bigSep_sep', bigSep_sep']

/-- The body's start. -/
theorem before_intro (c : Dev nD) :
    iprop(hand c ∗ (cred (tallyAt (barCell c) () 2) ∗ landCreds false c ∗ landCreds true c)
      ∗ xWhole m c ∗ oHas m ∅ c ∗ (slotsFree false c ∗ slotsFree true c) ∗ scratch c ∗ wHas m c) ⊢ before m c := by
  unfold hand sideToks before bench kit xWhole scratch
  rw [seats_split, x_parts]
  iintro ⟨⟨⟨Hb, ⟨Hs0, Hs1⟩, Hr0, Hr1⟩, ⟨Hl0, Hl1⟩, ⟨Ht0, Hv0, Hd0⟩, Ht1, Hv1, Hd1⟩, ⟨Hc, Hc0, Hc1⟩, ⟨Hx0, Hx1⟩, Ho, ⟨Hf0, Hf1⟩, ⟨Hst, Hac⟩, Hw⟩
  ihave Hst := (st_parts (F := F) c) $$ Hst
  ihave Hac := (ac_parts (F := F) c) $$ Hac
  icases Hst with ⟨Hst0, Hst1⟩
  icases Hac with ⟨Hac0, Hac1⟩
  isplitl [Ht0]; · iexact Ht0
  isplitl [Ht1]; · iexact Ht1
  isplitl [Hb]; · iexact Hb
  isplitl [Hc]; · iexact Hc
  isplitl [Hf0]; · iexact Hf0
  isplitl [Hf1]; · iexact Hf1
  isplitl [Hr0 Hc0]
  · iapply (landToks_intro (F := F) false c); isplitl [Hr0] <;> iassumption
  isplitl [Hr1 Hc1]
  · iapply (landToks_intro (F := F) true c); isplitl [Hr1] <;> iassumption
  isplitl [Hv0 Hd0 Hs0]
  · iapply (sendToks_intro (F := F) false c); isplitl [Hv0]; · iexact Hv0
    isplitl [Hd0] <;> iassumption
  isplitl [Hv1 Hd1 Hs1]
  · iapply (sendToks_intro (F := F) true c); isplitl [Hv1]; · iexact Hv1
    isplitl [Hd1] <;> iassumption
  isplitl [Hx0]; · iexact Hx0
  isplitl [Hx1]; · iexact Hx1
  isplitl [Hst0 Hac0 Hl0]
  · isplitl [Hst0]; · iexact Hst0
    isplitl [Hac0] <;> iassumption
  isplitl [Hst1 Hac1 Hl1]
  · isplitl [Hst1]; · iexact Hst1
    isplitl [Hac1] <;> iassumption
  isplitl [Hw] <;> iassumption

/-- The body's end. -/
theorem after_elim (c : Dev nD) : after m c ⊢ iprop(Φ₁ m c ∗ wHas m c) := by
  unfold after bench kit Φ₁ rested xWhole scratch lands drains
  rw [x_parts, upTo_seven, upTo_seven, upTo_seven, upTo_seven, bigSep_xfers]
  iintro ⟨Hb, Hr0, Hr1, Hs0, Hs1, Hx0, Hx1, ⟨Hst0, Hac0, Hl0⟩, ⟨Hst1, Hac1, Hl1⟩, Hw, Ho⟩
  isplitr [Hw]
  · isplitl [Hb Hr0 Hr1 Hs0 Hs1 Hl0 Hl1]
    · isplitl [Hb]; · iexact Hb
      isplitl [Hr0 Hr1 Hs0 Hs1]
      · isplitl [Hs0 Hs1]
        · isplitl [Hs0] <;> iassumption
        · isplitl [Hr0] <;> iassumption
      isplitl [Hl0] <;> iassumption
    isplitl [Hx0 Hx1]
    · isplitl [Hx0] <;> iassumption
    isplitl [Ho]; · iexact Ho
    isplitl [Hst0 Hst1]
    · iapply (st_join (F := F) c); isplitl [Hst0] <;> iassumption
    iapply (ac_join (F := F) c); isplitl [Hac0] <;> iassumption
  iexact Hw

/-! ## The body's obligation -/

/-- A whole buffer held through its memref. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer with contents `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem stg_before (c : Dev nD) (d) : (dats m ρ 0 c).before (0 : Fin 1) t0_0 d = wOf m c := by
  unfold Dat.before; rw [if_pos (fetch0_0 t0_0)]; rfl

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (wOf m c))

theorem sound_body (c : Dev nD) :
    bodyPre m ρ c ⊢ wp frame (wpE (defs₀ (F := F)) 𝒱₀ c none) Set.univ
      (cc0_body xM (Memref.isWhole_whole _) wM (Memref.isWhole_whole _) oM (Memref.isWhole_whole _) (gM false) (Memref.isWhole_whole _)
        (gM true) (Memref.isWhole_whole _) stM (Memref.isWhole_whole _) acM (Memref.isWhole_whole _)
        cc0_scratch2 cc0_scratch3 cc0_scratch4 cc0_scratch5 cc0_scratch6) (fun _ => bodyPost m ρ c) := by
  rw [body_steps, wp_deviceId]
  unfold bodyPre Φ₀ start G' Dat.owesAt Pipeline.owesWithin
  rw [show (dats m ρ 0 c).owed t0_0.castSucc = O₀ c from rfl]
  iintro ⟨⟨⟨⟨%K, #HR, Hh⟩, #Hlev, Hc, Hx, Ho, Hf0, Hf1⟩, Hsc⟩, ⟨%W, %hW, HO⟩, ⟨%d, %g, %hg, Hw⟩⟩
  have hw : g = wOf m c := hg.trans (stg_before m ρ c d)
  subst hw
  iapply (wp_body m K c fun _ => bodyPost m ρ c)
  isplitr
  · unfold known; isplitl; · iexact HR
    iexact Hlev
  isplitl [Hh Hc Hx Ho Hf0 Hf1 Hsc Hw]
  · iapply (before_intro m c)
    isplitl [Hh]; · iexact Hh
    isplitl [Hc]; · iexact Hc
    isplitl [Hx]; · iexact Hx
    isplitl [Ho]; · iexact Ho
    isplitl [Hf0 Hf1]
    · isplitl [Hf0] <;> iassumption
    isplitl [Hsc]; · iexact Hsc
    unfold wHas; iexact Hw
  isplitl [HO]; · iexists W; iexact HO
  unfold owing
  rw [owed_done]
  iintro ⟨Ha, ⟨%W', HO⟩⟩
  ihave Ha := (after_elim m c) $$ Ha
  icases Ha with ⟨HΦ, Hw⟩
  unfold bodyPost Dat.owesAt Pipeline.owesWithin wHas
  rw [show (dats m ρ 0 c).owed t0_0.succ = 0 from rfl]
  isplitl [HΦ]; · iexact HΦ
  isplitl [HO]
  · iexists W'
    isplitr; · ipureintro; exact fun _ _ => Or.inl trivial
    iexact HO
  iexists _
  isplitr; swap; · iexact Hw
  ipureintro; rfl

set_option maxRecDepth 16384 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
      (cc0_body xM (Memref.isWhole_whole _) wM (Memref.isWhole_whole _) oM (Memref.isWhole_whole _) (gM false) (Memref.isWhole_whole _)
        (gM true) (Memref.isWhole_whole _) stM (Memref.isWhole_whole _) acM (Memref.isWhole_whole _)
        cc0_scratch2 cc0_scratch3 cc0_scratch4 cc0_scratch5 cc0_scratch6) (fun _ => bodyPost m ρ c)
  exact sound_body m ρ c

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho, Hg0, Hg1⟩, Hlev, Hcr, -, HG⟩
  ihave Hc := (creds (F := F) c) $$ Hcr
  ihave Hg0 := (g_parts (F := F) false c _) $$ Hg0
  ihave Hg1 := (g_parts (F := F) true c _) $$ Hg1
  imodintro
  unfold start xWhole oHas
  isplitl; swap; · iempintro
  isplitl [HG]; · iexact HG
  isplitl [Hlev]; · iexact Hlev
  isplitl [Hc]; · iexact Hc
  isplitl [Hx]; · iexact Hx
  isplitl [Ho]
  · iexists _
    isplitr; swap; · iexact Ho
    ipureintro; exact fun p hp => absurd hp (Finset.notMem_empty p)
  isplitl [Hg0] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device has left to show at the end. -/
def done (c : Dev nD) : sProp 𝕄 := iprop(unscopedSems0 c ∗ xWhole m c ∗ oHas m Finset.univ c)

theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ rested done scratch
  rw [unscopedSems0_eq]
  iintro ⟨⟨Hb, Hx, Hl⟩, Hx0, Ho, Hsc⟩
  isplitl [Hb Hx0 Ho]
  · isplitl [Hb]; · iexact Hb
    isplitl [Hx0] <;> iassumption
  isplitl [Hx Hl]
  · isplitl [Hx] <;> iassumption
  iexact Hsc

/-- All that is owed at launch is owed to cells above the lowest. -/
theorem O₀_above {c : Dev nD} {g : GSem nD τ sig} {u : Unit} (h : 0 < O₀ c g u) : g.1.2 = .tc ∧ 0 < lv g u := by
  cases u
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨s, j, -, rfl⟩ := owed_pos h
      exact ⟨rfl, by rw [lv_recv]; omega⟩
    · rw [tally_pos h]; exact ⟨rfl, by rw [lv_bar]; omega⟩
  · rw [tally_pos h]; exact ⟨rfl, by rw [lv_bar]; omega⟩

/-- The staging semaphore is none of the schedule's. -/
theorem stage_other : ∀ (w : Fin 1) (s : Fin (spec0 w).nbuf) (k : CK), csem k ≠ SemLoc.dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ _ fun g u hg => ⟨(O₀_above hg).1, by rw [lv_other (stage_other w s)]; exact (O₀_above hg).2⟩
    · show _ ⊢ MayWait _ _ _ 0
      rw [MayWait_zero]; iintro -; iempintro

/-! ## The run -/

/-- Where a device ends: its result has every tile in place, its arguments are unchanged. -/
def Ends (c : Dev nD) (s : MemSt nD τ sig (Elt F)) : Prop :=
  Good m c Finset.univ (s.mem ((c.tc : Thread nD τ).loc main_v1_0))
    ∧ s.mem ((c.tc : Thread nD τ).loc main_arg0) = m ((c.tc : Thread nD τ).loc main_arg0)
    ∧ s.mem ((c.tc : Thread nD τ).loc main_arg1) = m ((c.tc : Thread nD τ).loc main_arg1)

/-- What the last holdings say of the final memory. -/
theorem read_end (c : Dev nD) (s' : Phys nD τ sig (Elt F)) :
    iprop(done m c ∗ emp ∗ SI s') ⊢ |={Set.univ}=> iprop(⌜(Good m c Finset.univ (s'.mem.mem ((c.tc : Thread nD τ).loc main_v1_0))
        ∧ s'.mem.mem ((c.tc : Thread nD τ).loc main_arg0) = m ((c.tc : Thread nD τ).loc main_arg0))
        ∧ ∀ sm : SemLoc sig, sm.isScoped .tc = false → s'.mem.sem ((c.tc : Thread nD τ), sm) = 0⌝ ∗ (SI s' : sProp 𝕄)) := by
  unfold done xWhole oHas
  iintro ⟨⟨Hu, Hx, ⟨%f, %hf, Ho⟩⟩, -, HSI⟩
  icombine HSI Hx gives %hx
  icombine HSI Ho gives %ho
  have hx := Buf.eq_of_forall_mem_univ hx
  have ho := Buf.eq_of_forall_mem_univ ho
  imod (Pipeline.unscopedSems0_read (X := unscopedSems0 c) (c := c) fupd_intro s') $$ [Hu HSI] with ⟨%hs, HSI⟩
  · isplitl [Hu] <;> iassumption
  imodintro
  isplitr; swap; · iexact HSI
  ipureintro
  exact ⟨⟨ho ▸ hf, hx⟩, hs⟩

set_option maxRecDepth 16384 in
/-- From any memory with every counter at zero, every fair execution of the program on the eight devices ends, with
    every device where it should be and every semaphore's counter at zero. -/
theorem run_main : θ_run defs (onTc (τ := τ) (main (F := F))) (s₀ m ρ) (fun r => (∀ c : Dev nD, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := fun c s => (Good m c Finset.univ (s.mem ((c.tc : Thread nD τ).loc main_v1_0))
        ∧ s.mem ((c.tc : Thread nD τ).loc main_arg0) = m ((c.tc : Thread nD τ).loc main_arg0))
        ∧ ∀ sm : SemLoc sig, sm.isScoped .tc = false → s.sem ((c.tc : Thread nD τ), sm) = 0)
    (hY := read_end m)
    (hQ := fun _ h hs => ⟨fun c => ⟨(h c).2.2.1.1, (h c).2.2.1.2, ((h c).1 0).trans ((dats (F := F) m ρ 0 c).arrAt_in 0 rfl _)⟩,
      sem_eq_zero hs fun c => (h c).2.2.2⟩)

end Cert.AllGather
end
-- ==== Proof.Value.lean ====
/-
The result in numbers. At the ideal values the entry of a device's result in a row and a column is the sum, over the
8192 middle coordinates, of the products of the gathered rows' and the device's columns' entries; and the whole product's
entry in that row and the device's column is the same sum.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.IdealHost

@[expose] public section

noncomputable section

namespace Cert.AllGather

open Cert.KernelIdeal Cert.KernelIdeal.Gen
open Idealize.ShloMosaic Idealize.ShloMosaic.TcCoe Idealize.ShloMosaic.ValueIdx

/-! ## What the pieces hold, entry by entry -/

section Pieces
variable {F : FTy → Type} [FloatOps F] (m : (ℓ : Loc nD τ sig) → Buf (Elt F) ℓ)

theorem top_add_lt (s : Bool) (i : Fin 512) : top s + i.val < 1024 := by
  have := i.isLt
  cases s <;> simp only [top] <;> omega

theorem row_lt (e : Dev nD) (s : Bool) (i : Fin 512) : 1024 * e.val + top s + i.val < 8192 := by
  have h : e.val < 8 := e.isLt
  have := top_add_lt s i
  omega

/-- An entry of a half block is the entry of its device's rows, `top s` rows down. -/
theorem half_at (s : Bool) (e : Dev nD) (i : Fin 512) (k : Fin 8192) :
    half m s e (ix2 i k) = m ((e : Thread nD τ).loc main_arg0) (ix2 ⟨top s + i.val, top_add_lt s i⟩ k) := by
  refine congrArg (m ((e : Thread nD τ).loc main_arg0)) (funext fun a => Fin.ext ?_)
  match a with
  | ⟨0, _⟩ => show top s + 1 * i.val = top s + i.val; omega
  | ⟨1, _⟩ => show 0 + 1 * k.val = k.val; omega

/-- An entry of the columns brought in is the entry of the device's columns. -/
theorem wOf_at (c : Dev nD) (k : Fin 8192) (j : Fin 512) :
    wOf m c (ix2 k j) = m ((c : Thread nD τ).loc main_arg1) (ix2 k j) := by
  refine congrArg (m ((c : Thread nD τ).loc main_arg1)) (funext fun a => Fin.ext ?_)
  match a with
  | ⟨0, _⟩ => exact Pipeline.Window.rect_emb_val_of_index_zero win0_0 t0_0 0 rfl (ix2 k j)
  | ⟨1, _⟩ => exact Pipeline.Window.rect_emb_val_of_index_zero win0_0 t0_0 1 rfl (ix2 k j)

/-- A tile's entry is the result's, in the tile's rows. -/
theorem tile_at (p : Bool × Dev nD) (f : S8192x512.Idx → Elt F .f32) (i j : Fin 512) :
    (oAt p).view.read (Elt F) f (ix2 i j) = f (ix2 ⟨1024 * p.2.val + top p.1 + i.val, row_lt p.2 p.1 i⟩ j) := by
  refine congrArg f (funext fun a => Fin.ext ?_)
  match a with
  | ⟨0, _⟩ => show (1024 * p.2.val + top p.1) + 1 * i.val = 1024 * p.2.val + top p.1 + i.val; omega
  | ⟨1, _⟩ => show 0 + 1 * j.val = j.val; omega

/-- Every row of the result is a row of one of the half blocks. -/
theorem row_split (r : Fin 8192) : ∃ (s : Bool) (e : Dev nD) (i : Fin 512), r = ⟨1024 * e.val + top s + i.val, row_lt e s i⟩ := by
  have hr := r.isLt
  have he : r.val / 1024 < 8 := by omega
  by_cases h : r.val % 1024 < 512
  · exact ⟨false, ⟨r.val / 1024, he⟩, ⟨r.val % 1024, h⟩, Fin.ext (by show r.val = 1024 * (r.val / 1024) + 0 + r.val % 1024; omega)⟩
  · exact ⟨true, ⟨r.val / 1024, he⟩, ⟨r.val % 1024 - 512, by omega⟩,
      Fin.ext (by show r.val = 1024 * (r.val / 1024) + 512 + (r.val % 1024 - 512); omega)⟩

end Pieces

/-! ## At the ideal values -/

/-- The product of a half block and the columns, entry by entry: the sum over the middle coordinate. -/
theorem prod_at (X : S512x8192.Idx → Elt Ideal .f32) (w : S8192x512.Idx → Elt Ideal .f32) (i j : Fin 512) :
    prod (F := Ideal) X w (ix2 i j) = ∑ k : Fin 8192, (X (ix2 i k) * w (ix2 k j) : EReal) := by
  have hw : shapeCast S8192x512 w shapeCasts_S8192x512_S8192x512 = w := shapeCast_self _ _
  unfold prod
  rw [hw]
  refine (Ideal.matmul_plain_apply (M := 512) (K := 8192) (N := 512) none (X : FVec Ideal S512x8192 .f32) (w : FVec Ideal S8192x512 .f32)
    (constant S512x512 .f32 0x00000000#32) i j).trans ?_
  rw [constant_apply, Ideal.ofBits_zero_f32, zero_add]

/-- The product of the whole arrays, as the reference makes it. -/
abbrev full (A : Cert.ReferenceIdeal.S8192x8192.Idx → Elt Ideal .f32) (B : Cert.ReferenceIdeal.S8192x4096.Idx → Elt Ideal .f32) :
    Cert.ReferenceIdeal.S8192x4096.Idx → Elt Ideal .f32 :=
  Host.dotGeneral (F := Ideal) (φ₁ := .f32) (φ₂ := .f32) Cert.ReferenceIdeal.dot_S8192x8192_S8192x4096_S8192x4096_1_0_0_1_n_n none A B

/-- Its entries. -/
theorem full_at (A : Cert.ReferenceIdeal.S8192x8192.Idx → Elt Ideal .f32) (B : Cert.ReferenceIdeal.S8192x4096.Idx → Elt Ideal .f32)
    (r : Fin 8192) (j : Fin 4096) : full A B (ix2 r j) = ∑ k : Fin 8192, (A (ix2 r k) * B (ix2 k j) : EReal) :=
  StackMember.dotGeneral_plain_apply (m := 8192) (k := 8192) (n := 4096) (φ₁ := .f32) (φ₂ := .f32) none A B r j

theorem col_lt (c : Dev nD) (j : Fin 512) : 512 * c.val + j.val < 4096 := by
  have h : c.val < 8 := c.isLt
  have := j.isLt
  omega

/-- Device `e`'s block of the rows of an array. -/
theorem rows_at (A : Cert.ReferenceIdeal.S8192x8192.Idx → Elt Ideal .f32) (h : Layout.Tiles ⟨2, ![1024, 8192]⟩ ⟨2, ![8192, 8192]⟩ 0 8)
    (e : Dev nD) (i : Fin 1024) (k : Fin 8192) (hr : 1024 * e.val + i.val < 8192) :
    Layout.block ⟨2, ![1024, 8192]⟩ ⟨2, ![8192, 8192]⟩ 0 8 e A h (ix2 i k) = A (ix2 ⟨1024 * e.val + i.val, hr⟩ k) := by
  refine congrArg A (funext fun a => Fin.ext ?_)
  match a with
  | ⟨0, _⟩ => show e.val * 1024 + i.val = 1024 * e.val + i.val; omega
  | ⟨1, _⟩ => rfl

/-- Device `c`'s block of the columns of an array with 8192 rows. -/
theorem cols_at (B : Cert.ReferenceIdeal.S8192x4096.Idx → Elt Ideal .f32) (h : Layout.Tiles ⟨2, ![8192, 512]⟩ ⟨2, ![8192, 4096]⟩ 1 8)
    (c : Dev nD) (k : Fin 8192) (j : Fin 512) :
    Layout.block ⟨2, ![8192, 512]⟩ ⟨2, ![8192, 4096]⟩ 1 8 c B h (ix2 k j) = B (ix2 k ⟨512 * c.val + j.val, col_lt c j⟩) := by
  refine congrArg B (funext fun a => Fin.ext ?_)
  match a with
  | ⟨0, _⟩ => rfl
  | ⟨1, _⟩ => show c.val * 512 + j.val = 512 * c.val + j.val; omega

/-- When the devices hold the row blocks of `A` and the column blocks of `B`, and every tile of device `c`'s result is in
place, that result is device `c`'s column block of the whole product. -/
theorem result_eq (m : (ℓ : Loc nD τ sig) → Buf (Elt Ideal) ℓ)
    (A : Cert.ReferenceIdeal.S8192x8192.Idx → Elt Ideal .f32) (B : Cert.ReferenceIdeal.S8192x4096.Idx → Elt Ideal .f32)
    (hA : Layout.Tiles ⟨2, ![1024, 8192]⟩ ⟨2, ![8192, 8192]⟩ 0 8) (hB : Layout.Tiles ⟨2, ![8192, 512]⟩ ⟨2, ![8192, 4096]⟩ 1 8)
    (h0 : ∀ e : Dev nD, m ((e : Thread nD τ).loc main_arg0) = Layout.block ⟨2, ![1024, 8192]⟩ ⟨2, ![8192, 8192]⟩ 0 8 e A hA)
    (h1 : ∀ e : Dev nD, m ((e : Thread nD τ).loc main_arg1) = Layout.block ⟨2, ![8192, 512]⟩ ⟨2, ![8192, 4096]⟩ 1 8 e B hB)
    (c : Dev nD) (f : S8192x512.Idx → Elt Ideal .f32) (hf : Good m c Finset.univ f) :
    f = Layout.block ⟨2, ![8192, 512]⟩ ⟨2, ![8192, 4096]⟩ 1 8 c (full A B) hB := by
  have key : ∀ (r : Fin 8192) (j : Fin 512),
      f (ix2 r j) = Layout.block ⟨2, ![8192, 512]⟩ ⟨2, ![8192, 4096]⟩ 1 8 c (full A B) hB (ix2 r j) := by
    intro r j
    obtain ⟨s, e, i, rfl⟩ := row_split r
    rw [cols_at, full_at, ← tile_at (s, e) f i j, hf (s, e) (Finset.mem_univ _), prod_at]
    refine Finset.sum_congr rfl fun k _ => ?_
    rw [half_at, wOf_at, h0, h1, cols_at,
      rows_at A hA e ⟨top s + i.val, top_add_lt s i⟩ k (by show 1024 * e.val + (top s + i.val) < 8192; have := row_lt e s i; omega)]
    simp only [Nat.add_assoc]
  funext x
  rw [show x = ix2 (x 0) (x 1) from eq_ix2 x]
  exact key _ _

end Cert.AllGather
end
-- ==== Proof.Legs.lean ====
/-
The claims one by one: that each program runs, leaves its arguments alone and ends with its semaphores at zero, and that
the kernel computes what the reference does.
-/
module

public import proofs.«01_k».proof.Defs
public import proofs.«01_k».proof.Proof.Gen.Kernel
public import proofs.«01_k».proof.Proof.Gen.ReferenceIdeal.Run
public import proofs.«01_k».proof.Proof.Value
public import Idealize.ShloMosaic.Lib.Quiescent

@[expose] public section

noncomputable section

namespace Cert.AllGather

open Idealize.ShloMosaic Idealize.ShloMosaic.TcCoe Idealize.SL.Sem

/-! ## The printed kernel and the idealized one have the same functions -/

section Same
variable {F : FTy → Type} [FloatOps F]

/-- The kernel bodies agree, -/
theorem defs₀_same : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

/-- and so does everything the programs call. -/
theorem defs_same : Cert.Kernel.defs (F := F) = Cert.KernelIdeal.defs (F := F) :=
  congrArg (Pipeline.defs Cert.KernelIdeal.pcfgs) defs₀_same

end Same

/-! ## The runs -/

/-- The idealized kernel, at any float values: it runs, its arguments end as they began, its semaphores at zero. -/
theorem kernel_quiet {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (run_main m g)

/-- `frame` of the idealized kernel; -/
theorem kernelIdeal_leg : quiescent_KernelIdeal := fun m g _ => kernel_quiet m g

/-- of the kernel as printed, whose functions are the same; -/
theorem kernel_leg : quiescent_Kernel := by
  intro m g _
  rw [defs_same]
  exact kernel_quiet (F := Bits) m g

/-- of the reference, which has no semaphore. -/
theorem reference_leg : quiescent_ReferenceIdeal := fun m g _ =>
  (θ_run _ _ _).mono (fun r h => ⟨fun c => (h c).2, sem_eq_zero_of_no_sems rfl r.2⟩) (Cert.ReferenceIdeal.Value.run m g)

/-- The kernel's result, the devices' column blocks put together, is the reference's: the product of the two arrays. -/
theorem algebraic_leg : algebraic_KernelIdeal_ReferenceIdeal := fun m g m' g' _ h =>
  ⟨full (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => ⟨result_eq m _ _ _ _ (fun e => (h e).1) (fun e => (h e).2) c _ (hr.1 c).1, (hr.1 c).2⟩) (run_main m g),
    (θ_run _ _ _).mono (fun _ hr => hr 0) (Cert.ReferenceIdeal.Value.run m' g')⟩

end Cert.AllGather
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Legs
public import Idealize.ShloMosaic.Adequacy
public import Idealize.ShloMosaic.Init

@[expose] public section

noncomputable section

namespace Cert.Proof

open Idealize.ShloMosaic Idealize.SL.Sem Cert.Kernel

/-- Every claim: the three programs run, leave their arguments alone and end quiet; the idealized kernel is the printed one with
nothing rewritten; and it computes the reference's product. -/
theorem claim : Cert.Claim := ⟨Cert.Kernel.Gen.facts, Cert.KernelIdeal.Gen.facts, Cert.ReferenceIdeal.Gen.facts,
  Cert.AllGather.kernel_leg, Cert.AllGather.kernelIdeal_leg, Cert.AllGather.reference_leg, trivial, Cert.AllGather.algebraic_leg⟩

end Cert.Proof

end
